-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerRefIdeal (m : (ℓ : Loc Cert.LayerRefIdeal.nD Cert.LayerRefIdeal.τ Cert.LayerRefIdeal.sig) → Buf (Elt Ideal) ℓ) : Prop :=
  True

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4)
      ∧ r.2.mem ((c.tc : Thread Cert.Layer.nD Cert.Layer.τ).loc Cert.Layer.main_arg5) = m ((c.tc : Thread Cert.Layer.nD Cert.Layer.τ).loc Cert.Layer.main_arg5)
      ∧ r.2.mem ((c.tc : Thread Cert.Layer.nD Cert.Layer.τ).loc Cert.Layer.main_arg6) = m ((c.tc : Thread Cert.Layer.nD Cert.Layer.τ).loc Cert.Layer.main_arg6)
      ∧ r.2.mem ((c.tc : Thread Cert.Layer.nD Cert.Layer.τ).loc Cert.Layer.main_arg7) = m ((c.tc : Thread Cert.Layer.nD Cert.Layer.τ).loc Cert.Layer.main_arg7)
      ∧ r.2.mem ((c.tc : Thread Cert.Layer.nD Cert.Layer.τ).loc Cert.Layer.main_arg8) = m ((c.tc : Thread Cert.Layer.nD Cert.Layer.τ).loc Cert.Layer.main_arg8)
      ∧ r.2.mem ((c.tc : Thread Cert.Layer.nD Cert.Layer.τ).loc Cert.Layer.main_arg9) = m ((c.tc : Thread Cert.Layer.nD Cert.Layer.τ).loc Cert.Layer.main_arg9)
      ∧ r.2.mem ((c.tc : Thread Cert.Layer.nD Cert.Layer.τ).loc Cert.Layer.main_arg10) = m ((c.tc : Thread Cert.Layer.nD Cert.Layer.τ).loc Cert.Layer.main_arg10))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10))
      ∧ r.2.sem = fun _ => 0)

def quiescent_LayerRefIdeal [hLayerRefIdeal : Cert.LayerRefIdeal.Facts] : Prop :=
  ∀ (m : (ℓ : Loc Cert.LayerRefIdeal.nD Cert.LayerRefIdeal.τ Cert.LayerRefIdeal.sig) → Buf (Elt Ideal) ℓ) (g : Dev Cert.LayerRefIdeal.nD → PrngReg), Pre_LayerRefIdeal m →
    θ_run (Cert.LayerRefIdeal.defs (F := Ideal)) (onTc (τ := Cert.LayerRefIdeal.τ) (Cert.LayerRefIdeal.main (F := Ideal))) ⟨m, fun _ => 0, g⟩ (fun r => (∀ c : Dev Cert.LayerRefIdeal.nD,
      r.2.mem ((c.tc : Thread Cert.LayerRefIdeal.nD Cert.LayerRefIdeal.τ).loc Cert.LayerRefIdeal.main_arg0) = m ((c.tc : Thread Cert.LayerRefIdeal.nD Cert.LayerRefIdeal.τ).loc Cert.LayerRefIdeal.main_arg0)
      ∧ r.2.mem ((c.tc : Thread Cert.LayerRefIdeal.nD Cert.LayerRefIdeal.τ).loc Cert.LayerRefIdeal.main_arg1) = m ((c.tc : Thread Cert.LayerRefIdeal.nD Cert.LayerRefIdeal.τ).loc Cert.LayerRefIdeal.main_arg1)
      ∧ r.2.mem ((c.tc : Thread Cert.LayerRefIdeal.nD Cert.LayerRefIdeal.τ).loc Cert.LayerRefIdeal.main_arg2) = m ((c.tc : Thread Cert.LayerRefIdeal.nD Cert.LayerRefIdeal.τ).loc Cert.LayerRefIdeal.main_arg2)
      ∧ r.2.mem ((c.tc : Thread Cert.LayerRefIdeal.nD Cert.LayerRefIdeal.τ).loc Cert.LayerRefIdeal.main_arg3) = m ((c.tc : Thread Cert.LayerRefIdeal.nD Cert.LayerRefIdeal.τ).loc Cert.LayerRefIdeal.main_arg3)
      ∧ r.2.mem ((c.tc : Thread Cert.LayerRefIdeal.nD Cert.LayerRefIdeal.τ).loc Cert.LayerRefIdeal.main_arg4) = m ((c.tc : Thread Cert.LayerRefIdeal.nD Cert.LayerRefIdeal.τ).loc Cert.LayerRefIdeal.main_arg4)
      ∧ r.2.mem ((c.tc : Thread Cert.LayerRefIdeal.nD Cert.LayerRefIdeal.τ).loc Cert.LayerRefIdeal.main_arg5) = m ((c.tc : Thread Cert.LayerRefIdeal.nD Cert.LayerRefIdeal.τ).loc Cert.LayerRefIdeal.main_arg5)
      ∧ r.2.mem ((c.tc : Thread Cert.LayerRefIdeal.nD Cert.LayerRefIdeal.τ).loc Cert.LayerRefIdeal.main_arg6) = m ((c.tc : Thread Cert.LayerRefIdeal.nD Cert.LayerRefIdeal.τ).loc Cert.LayerRefIdeal.main_arg6)
      ∧ r.2.mem ((c.tc : Thread Cert.LayerRefIdeal.nD Cert.LayerRefIdeal.τ).loc Cert.LayerRefIdeal.main_arg7) = m ((c.tc : Thread Cert.LayerRefIdeal.nD Cert.LayerRefIdeal.τ).loc Cert.LayerRefIdeal.main_arg7)
      ∧ r.2.mem ((c.tc : Thread Cert.LayerRefIdeal.nD Cert.LayerRefIdeal.τ).loc Cert.LayerRefIdeal.main_arg8) = m ((c.tc : Thread Cert.LayerRefIdeal.nD Cert.LayerRefIdeal.τ).loc Cert.LayerRefIdeal.main_arg8)
      ∧ r.2.mem ((c.tc : Thread Cert.LayerRefIdeal.nD Cert.LayerRefIdeal.τ).loc Cert.LayerRefIdeal.main_arg9) = m ((c.tc : Thread Cert.LayerRefIdeal.nD Cert.LayerRefIdeal.τ).loc Cert.LayerRefIdeal.main_arg9)
      ∧ r.2.mem ((c.tc : Thread Cert.LayerRefIdeal.nD Cert.LayerRefIdeal.τ).loc Cert.LayerRefIdeal.main_arg10) = m ((c.tc : Thread Cert.LayerRefIdeal.nD Cert.LayerRefIdeal.τ).loc Cert.LayerRefIdeal.main_arg10))
      ∧ r.2.sem = fun _ => 0)

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v1_0)) (v1 : (c : Dev Cert.HeadIdeal.nD) → Buf (Elt Ideal) ((c.tc : Thread Cert.HeadIdeal.nD Cert.HeadIdeal.τ).loc Cert.HeadIdeal.main_v18)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v1_0) = v0 c
          ∧ r.2.mem ((c.tc : Thread Cert.HeadIdeal.nD Cert.HeadIdeal.τ).loc Cert.HeadIdeal.main_v18) = v1 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v14) = v0 c
          ∧ r.2.mem ((c.tc : Thread Cert.HeadRefIdeal.nD Cert.HeadRefIdeal.τ).loc Cert.HeadRefIdeal.main_v29) = v1 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4))

def preserves_Layer_LayerIdeal : Prop :=
  True

def algebraic_LayerIdeal_LayerRefIdeal [hLayerIdeal : Cert.LayerIdeal.Facts] [hLayerRefIdeal : Cert.LayerRefIdeal.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerRefIdeal.nD Cert.LayerRefIdeal.τ Cert.LayerRefIdeal.sig) → Buf (Elt Ideal) ℓ) (g' : Dev Cert.LayerRefIdeal.nD → PrngReg), Pre_LayerIdeal m →
    (∀ c : Dev Cert.LayerIdeal.nD,
      m' ((c.tc : Thread Cert.LayerRefIdeal.nD Cert.LayerRefIdeal.τ).loc Cert.LayerRefIdeal.main_arg0) = m ((c.tc : Thread Cert.LayerIdeal.nD Cert.LayerIdeal.τ).loc Cert.LayerIdeal.main_arg0)
      ∧ m' ((c.tc : Thread Cert.LayerRefIdeal.nD Cert.LayerRefIdeal.τ).loc Cert.LayerRefIdeal.main_arg1) = m ((c.tc : Thread Cert.LayerIdeal.nD Cert.LayerIdeal.τ).loc Cert.LayerIdeal.main_arg1)
      ∧ m' ((c.tc : Thread Cert.LayerRefIdeal.nD Cert.LayerRefIdeal.τ).loc Cert.LayerRefIdeal.main_arg2) = m ((c.tc : Thread Cert.LayerIdeal.nD Cert.LayerIdeal.τ).loc Cert.LayerIdeal.main_arg2)
      ∧ m' ((c.tc : Thread Cert.LayerRefIdeal.nD Cert.LayerRefIdeal.τ).loc Cert.LayerRefIdeal.main_arg3) = m ((c.tc : Thread Cert.LayerIdeal.nD Cert.LayerIdeal.τ).loc Cert.LayerIdeal.main_arg3)
      ∧ m' ((c.tc : Thread Cert.LayerRefIdeal.nD Cert.LayerRefIdeal.τ).loc Cert.LayerRefIdeal.main_arg4) = m ((c.tc : Thread Cert.LayerIdeal.nD Cert.LayerIdeal.τ).loc Cert.LayerIdeal.main_arg4)
      ∧ m' ((c.tc : Thread Cert.LayerRefIdeal.nD Cert.LayerRefIdeal.τ).loc Cert.LayerRefIdeal.main_arg5) = m ((c.tc : Thread Cert.LayerIdeal.nD Cert.LayerIdeal.τ).loc Cert.LayerIdeal.main_arg5)
      ∧ m' ((c.tc : Thread Cert.LayerRefIdeal.nD Cert.LayerRefIdeal.τ).loc Cert.LayerRefIdeal.main_arg6) = m ((c.tc : Thread Cert.LayerIdeal.nD Cert.LayerIdeal.τ).loc Cert.LayerIdeal.main_arg6)
      ∧ m' ((c.tc : Thread Cert.LayerRefIdeal.nD Cert.LayerRefIdeal.τ).loc Cert.LayerRefIdeal.main_arg7) = m ((c.tc : Thread Cert.LayerIdeal.nD Cert.LayerIdeal.τ).loc Cert.LayerIdeal.main_arg7)
      ∧ m' ((c.tc : Thread Cert.LayerRefIdeal.nD Cert.LayerRefIdeal.τ).loc Cert.LayerRefIdeal.main_arg8) = m ((c.tc : Thread Cert.LayerIdeal.nD Cert.LayerIdeal.τ).loc Cert.LayerIdeal.main_arg8)
      ∧ m' ((c.tc : Thread Cert.LayerRefIdeal.nD Cert.LayerRefIdeal.τ).loc Cert.LayerRefIdeal.main_arg9) = m ((c.tc : Thread Cert.LayerIdeal.nD Cert.LayerIdeal.τ).loc Cert.LayerIdeal.main_arg9)
      ∧ m' ((c.tc : Thread Cert.LayerRefIdeal.nD Cert.LayerRefIdeal.τ).loc Cert.LayerRefIdeal.main_arg10) = m ((c.tc : Thread Cert.LayerIdeal.nD Cert.LayerIdeal.τ).loc Cert.LayerIdeal.main_arg10)) →
    ∃ (v0 : (c : Dev Cert.LayerIdeal.nD) → Buf (Elt Ideal) ((c.tc : Thread Cert.LayerIdeal.nD Cert.LayerIdeal.τ).loc Cert.LayerIdeal.main_v8)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v8) = v0 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
          ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
          ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
          ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
          ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10))
      ∧ θ_run (Cert.LayerRefIdeal.defs (F := Ideal)) (onTc (τ := Cert.LayerRefIdeal.τ) (Cert.LayerRefIdeal.main (F := Ideal))) ⟨m', fun _ => 0, g'⟩ (fun r => ∀ c : Dev Cert.LayerRefIdeal.nD,
          r.2.mem ((c.tc : Thread Cert.LayerRefIdeal.nD Cert.LayerRefIdeal.τ).loc Cert.LayerRefIdeal.main_v73) = v0 c
          ∧ r.2.mem ((c.tc : Thread Cert.LayerRefIdeal.nD Cert.LayerRefIdeal.τ).loc Cert.LayerRefIdeal.main_arg0) = m' ((c.tc : Thread Cert.LayerRefIdeal.nD Cert.LayerRefIdeal.τ).loc Cert.LayerRefIdeal.main_arg0)
          ∧ r.2.mem ((c.tc : Thread Cert.LayerRefIdeal.nD Cert.LayerRefIdeal.τ).loc Cert.LayerRefIdeal.main_arg1) = m' ((c.tc : Thread Cert.LayerRefIdeal.nD Cert.LayerRefIdeal.τ).loc Cert.LayerRefIdeal.main_arg1)
          ∧ r.2.mem ((c.tc : Thread Cert.LayerRefIdeal.nD Cert.LayerRefIdeal.τ).loc Cert.LayerRefIdeal.main_arg2) = m' ((c.tc : Thread Cert.LayerRefIdeal.nD Cert.LayerRefIdeal.τ).loc Cert.LayerRefIdeal.main_arg2)
          ∧ r.2.mem ((c.tc : Thread Cert.LayerRefIdeal.nD Cert.LayerRefIdeal.τ).loc Cert.LayerRefIdeal.main_arg3) = m' ((c.tc : Thread Cert.LayerRefIdeal.nD Cert.LayerRefIdeal.τ).loc Cert.LayerRefIdeal.main_arg3)
          ∧ r.2.mem ((c.tc : Thread Cert.LayerRefIdeal.nD Cert.LayerRefIdeal.τ).loc Cert.LayerRefIdeal.main_arg4) = m' ((c.tc : Thread Cert.LayerRefIdeal.nD Cert.LayerRefIdeal.τ).loc Cert.LayerRefIdeal.main_arg4)
          ∧ r.2.mem ((c.tc : Thread Cert.LayerRefIdeal.nD Cert.LayerRefIdeal.τ).loc Cert.LayerRefIdeal.main_arg5) = m' ((c.tc : Thread Cert.LayerRefIdeal.nD Cert.LayerRefIdeal.τ).loc Cert.LayerRefIdeal.main_arg5)
          ∧ r.2.mem ((c.tc : Thread Cert.LayerRefIdeal.nD Cert.LayerRefIdeal.τ).loc Cert.LayerRefIdeal.main_arg6) = m' ((c.tc : Thread Cert.LayerRefIdeal.nD Cert.LayerRefIdeal.τ).loc Cert.LayerRefIdeal.main_arg6)
          ∧ r.2.mem ((c.tc : Thread Cert.LayerRefIdeal.nD Cert.LayerRefIdeal.τ).loc Cert.LayerRefIdeal.main_arg7) = m' ((c.tc : Thread Cert.LayerRefIdeal.nD Cert.LayerRefIdeal.τ).loc Cert.LayerRefIdeal.main_arg7)
          ∧ r.2.mem ((c.tc : Thread Cert.LayerRefIdeal.nD Cert.LayerRefIdeal.τ).loc Cert.LayerRefIdeal.main_arg8) = m' ((c.tc : Thread Cert.LayerRefIdeal.nD Cert.LayerRefIdeal.τ).loc Cert.LayerRefIdeal.main_arg8)
          ∧ r.2.mem ((c.tc : Thread Cert.LayerRefIdeal.nD Cert.LayerRefIdeal.τ).loc Cert.LayerRefIdeal.main_arg9) = m' ((c.tc : Thread Cert.LayerRefIdeal.nD Cert.LayerRefIdeal.τ).loc Cert.LayerRefIdeal.main_arg9)
          ∧ r.2.mem ((c.tc : Thread Cert.LayerRefIdeal.nD Cert.LayerRefIdeal.τ).loc Cert.LayerRefIdeal.main_arg10) = m' ((c.tc : Thread Cert.LayerRefIdeal.nD Cert.LayerRefIdeal.τ).loc Cert.LayerRefIdeal.main_arg10))

def Claim : Prop :=
  ∃ (hHead : Cert.Head.Facts) (hHeadIdeal : Cert.HeadIdeal.Facts) (hHeadRefIdeal : Cert.HeadRefIdeal.Facts) (hLayer : Cert.Layer.Facts) (hLayerIdeal : Cert.LayerIdeal.Facts) (hLayerRefIdeal : Cert.LayerRefIdeal.Facts),
    quiescent_Head (hHead := hHead)
    ∧ quiescent_HeadIdeal (hHeadIdeal := hHeadIdeal)
    ∧ quiescent_HeadRefIdeal (hHeadRefIdeal := hHeadRefIdeal)
    ∧ quiescent_Layer (hLayer := hLayer)
    ∧ quiescent_LayerIdeal (hLayerIdeal := hLayerIdeal)
    ∧ quiescent_LayerRefIdeal (hLayerRefIdeal := hLayerRefIdeal)
    ∧ preserves_Head_HeadIdeal
    ∧ algebraic_HeadIdeal_HeadRefIdeal (hHeadIdeal := hHeadIdeal) (hHeadRefIdeal := hHeadRefIdeal)
    ∧ preserves_Layer_LayerIdeal
    ∧ algebraic_LayerIdeal_LayerRefIdeal (hLayerIdeal := hLayerIdeal) (hLayerRefIdeal := hLayerRefIdeal)
-- ==== Head.lean ====
abbrev S1x2048 : Shape := ⟨2, ![1, 2048]⟩
abbrev S2048x768 : Shape := ⟨2, ![2048, 768]⟩
abbrev S768 : Shape := ⟨1, ![768]⟩
abbrev S50257x768 : Shape := ⟨2, ![50257, 768]⟩
abbrev S1x768 : Shape := ⟨2, ![1, 768]⟩
abbrev S2048x50257 : Shape := ⟨2, ![2048, 50257]⟩
abbrev S2048x256 : Shape := ⟨2, ![2048, 256]⟩
abbrev S2048x1 : Shape := ⟨2, ![2048, 1]⟩
abbrev S512x768 : Shape := ⟨2, ![512, 768]⟩
abbrev S2048x512 : Shape := ⟨2, ![2048, 512]⟩
abbrev S2048x128 : Shape := ⟨2, ![2048, 128]⟩
abbrev S2048 : Shape := ⟨1, ![2048]⟩
abbrev S1x512 : Shape := ⟨2, ![1, 512]⟩
abbrev S_ : Shape := ⟨0, ![]⟩

abbrev nBuf : Space → Nat
  | .hbm => 30
  | .vmem => 12
  | .smem => 0
  | _ => 0

abbrev bufTy : (tb : Table) → Fin (tcTables nBuf tb) → BufTy
  | .hbm, ⟨0, _⟩ => ⟨S1x2048, .i32⟩
  | .hbm, ⟨1, _⟩ => ⟨S2048x768, .f32⟩
  | .hbm, ⟨2, _⟩ => ⟨S2048x768, .f32⟩
  | .hbm, ⟨3, _⟩ => ⟨S768, .f32⟩
  | .hbm, ⟨4, _⟩ => ⟨S50257x768, .f32⟩
  | .hbm, ⟨5, _⟩ => ⟨S1x768, .f32⟩
  | .hbm, ⟨6, _⟩ => ⟨S2048x50257, .f32⟩
  | .hbm, ⟨7, _⟩ => ⟨S2048x256, .f32⟩
  | .hbm, ⟨8, _⟩ => ⟨S2048x1, .f32⟩
  | .hbm, ⟨9, _⟩ => ⟨S2048x1, .f32⟩
  | .hbm, ⟨10, _⟩ => ⟨S2048, .f32⟩
  | .hbm, ⟨11, _⟩ => ⟨S2048x1, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S2048x768, .f32⟩
  | .local _ .vmem, ⟨1, _⟩ => ⟨S2048x768, .f32⟩
  | .local _ .vmem, ⟨2, _⟩ => ⟨S1x768, .f32⟩
  | .local _ .vmem, ⟨3, _⟩ => ⟨S512x768, .f32⟩
  | .local _ .vmem, ⟨4, _⟩ => ⟨S512x768, .f32⟩
  | .local _ .vmem, ⟨5, _⟩ => ⟨S2048x512, .f32⟩
  | .local _ .vmem, ⟨6, _⟩ => ⟨S2048x512, .f32⟩
  | .local _ .vmem, ⟨7, _⟩ => ⟨S2048x128, .f32⟩
  | .local _ .vmem, ⟨8, _⟩ => ⟨S2048x128, .f32⟩
  | .local _ .vmem, ⟨9, _⟩ => ⟨S2048x1, .f32⟩
  | .local _ .vmem, ⟨10, _⟩ => ⟨S2048x768, .f32⟩
  | .local _ .vmem, ⟨11, _⟩ => ⟨S2048x1, .f32⟩
  | _, _ => ⟨S1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![2, 50], ![false, false]⟩

def k0_cond4 (i : grid0.Coords) : BitVec 1 :=
  let arg1 : BitVec 32 := BitVec.ofNat 32 (i 1).val
  let c49_i32 : BitVec 32 := 49#32
  let v15 : BitVec 1 := Scalar.cmpi .eq arg1 c49_i32
  let v16 : BitVec 32 := Scalar.extui v15
  let c0_i32_9 : BitVec 32 := 0#32
  let v17 : BitVec 1 := Scalar.cmpi .ne v16 c0_i32_9
  v17

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c98_i32 : BitVec 32 := 98#32
  let v2 : BitVec 32 := Scalar.minsi v1 c98_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c98_i32 : BitVec 32 := 98#32
  let v2 : BitVec 32 := Scalar.minsi v1 c98_i32
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== HeadRefIdeal.lean ====
abbrev S1x2048 : Shape := ⟨2, ![1, 2048]⟩
abbrev S2048x768 : Shape := ⟨2, ![2048, 768]⟩
abbrev S768 : Shape := ⟨1, ![768]⟩
abbrev S50257x768 : Shape := ⟨2, ![50257, 768]⟩
abbrev S_ : Shape := ⟨0, ![]⟩
abbrev S2048 : Shape := ⟨1, ![2048]⟩
abbrev S2048x1 : Shape := ⟨2, ![2048, 1]⟩
abbrev S1x768 : Shape := ⟨2, ![1, 768]⟩
abbrev S768x50257 : Shape := ⟨2, ![768, 50257]⟩
abbrev S2048x50257 : Shape := ⟨2, ![2048, 50257]⟩

abbrev nBuf : Space → Nat
  | .hbm => 44
  | .vmem => 0
  | .smem => 0
  | _ => 0

abbrev bufTy : (tb : Table) → Fin (tcTables nBuf tb) → BufTy
  | .hbm, ⟨0, _⟩ => ⟨S1x2048, .i32⟩
  | .hbm, ⟨1, _⟩ => ⟨S2048x768, .f32⟩
  | .hbm, ⟨2, _⟩ => ⟨S2048x768, .f32⟩
  | .hbm, ⟨3, _⟩ => ⟨S768, .f32⟩
  | .hbm, ⟨4, _⟩ => ⟨S50257x768, .f32⟩
  | .hbm, ⟨5, _⟩ => ⟨S2048x768, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x768, .f32⟩
  | .hbm, ⟨17, _⟩ => ⟨S2048x768, .f32⟩
  | .hbm, ⟨18, _⟩ => ⟨S1x768, .f32⟩
  | .hbm, ⟨19, _⟩ => ⟨S2048x768, .f32⟩
  | .hbm, ⟨20, _⟩ => ⟨S2048x768, .f32⟩
  | .hbm, ⟨21, _⟩ => ⟨S768x50257, .f32⟩
  | .hbm, ⟨22, _⟩ => ⟨S2048x50257, .f32⟩
  | .hbm, ⟨23, _⟩ => ⟨S2048x50257, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048x768, .f32⟩
  | .hbm, ⟨28, _⟩ => ⟨S_, .f32⟩
  | .hbm, ⟨29, _⟩ => ⟨S2048, .f32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Layer.lean ====
abbrev S2048x768 : Shape := ⟨2, ![2048, 768]⟩
abbrev S768 : Shape := ⟨1, ![768]⟩
abbrev S3072x768 : Shape := ⟨2, ![3072, 768]⟩
abbrev S1536x4 : Shape := ⟨2, ![1536, 4]⟩
abbrev S1536 : Shape := ⟨1, ![1536]⟩
abbrev S80x1536 : Shape := ⟨2, ![80, 1536]⟩
abbrev S1536x48 : Shape := ⟨2, ![1536, 48]⟩
abbrev S1536x16 : Shape := ⟨2, ![1536, 16]⟩
abbrev S768x1536 : Shape := ⟨2, ![768, 1536]⟩
abbrev S_ : Shape := ⟨0, ![]⟩
abbrev S128x1536 : Shape := ⟨2, ![128, 1536]⟩
abbrev S1536x128 : Shape := ⟨2, ![1536, 128]⟩
abbrev S4x1536 : Shape := ⟨2, ![4, 1536]⟩
abbrev S1x1536 : Shape := ⟨2, ![1, 1536]⟩
abbrev S16x1536 : Shape := ⟨2, ![16, 1536]⟩
abbrev S1x768 : Shape := ⟨2, ![1, 768]⟩
abbrev S256x768 : Shape := ⟨2, ![256, 768]⟩
abbrev S8x1536 : Shape := ⟨2, ![8, 1536]⟩
abbrev S264x1536 : Shape := ⟨2, ![264, 1536]⟩
abbrev S256x1536 : Shape := ⟨2, ![256, 1536]⟩
abbrev S256x16 : Shape := ⟨2, ![256, 16]⟩
abbrev S256 : Shape := ⟨1, ![256]⟩
abbrev S256x1 : Shape := ⟨2, ![256, 1]⟩
abbrev S256x3072 : Shape := ⟨2, ![256, 3072]⟩
abbrev S3x1536 : Shape := ⟨2, ![3, 1536]⟩
abbrev S256x128 : Shape := ⟨2, ![256, 128]⟩
abbrev S8x16 : Shape := ⟨2, ![8, 16]⟩
abbrev S16x8 : Shape := ⟨2, ![16, 8]⟩
abbrev S16x1 : Shape := ⟨2, ![16, 1]⟩

abbrev nBuf : Space → Nat
  | .hbm => 24
  | .vmem => 22
  | .smem => 0
  | _ => 0

abbrev bufTy : (tb : Table) → Fin (tcTables nBuf tb) → BufTy
  | .hbm, ⟨0, _⟩ => ⟨S2048x768, .f32⟩
  | .hbm, ⟨1, _⟩ => ⟨S768, .f32⟩
  | .hbm, ⟨2, _⟩ => ⟨S3072x768, .f32⟩
  | .hbm, ⟨3, _⟩ => ⟨S1536x4, .f32⟩
  | .hbm, ⟨4, _⟩ => ⟨S1536, .f32⟩
  | .hbm, ⟨5, _⟩ => ⟨S80x1536, .f32⟩
  | .hbm, ⟨6, _⟩ => ⟨S1536x48, .f32⟩
  | .hbm, ⟨7, _⟩ => ⟨S1536, .f32⟩
  | .hbm, ⟨8, _⟩ => ⟨S1536x16, .f32⟩
  | .hbm, ⟨9, _⟩ => ⟨S1536, .f32⟩
  | .hbm, ⟨10, _⟩ => ⟨S768x1536, .f32⟩
  | .hbm, ⟨11, _⟩ => ⟨S_, .i32⟩
  | .hbm, ⟨12, _⟩ => ⟨S_, .f32⟩
  | .hbm, ⟨13, _⟩ => ⟨S128x1536, .f32⟩
  | .hbm, ⟨14, _⟩ => ⟨S_, .i32⟩
  | .hbm, ⟨15, _⟩ => ⟨S_, .f32⟩
  | .hbm, ⟨16, _⟩ => ⟨S1536x128, .f32⟩
  | .hbm, ⟨17, _⟩ => ⟨S4x1536, .f32⟩
  | .hbm, ⟨18, _⟩ => ⟨S1x1536, .f32⟩
  | .hbm, ⟨19, _⟩ => ⟨S1x1536, .f32⟩
  | .hbm, ⟨20, _⟩ => ⟨S16x1536, .f32⟩
  | .hbm, ⟨21, _⟩ => ⟨S1x1536, .f32⟩
  | .hbm, ⟨22, _⟩ => ⟨S1x768, .f32⟩
  | .hbm, ⟨23, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S3072x768, .f32⟩
  | .local _ .vmem, ⟨3, _⟩ => ⟨S4x1536, .f32⟩
  | .local _ .vmem, ⟨4, _⟩ => ⟨S1x1536, .f32⟩
  | .local _ .vmem, ⟨5, _⟩ => ⟨S128x1536, .f32⟩
  | .local _ .vmem, ⟨6, _⟩ => ⟨S1536x128, .f32⟩
  | .local _ .vmem, ⟨7, _⟩ => ⟨S1x1536, .f32⟩
  | .local _ .vmem, ⟨8, _⟩ => ⟨S16x1536, .f32⟩
  | .local _ .vmem, ⟨9, _⟩ => ⟨S1x1536, .f32⟩
  | .local _ .vmem, ⟨10, _⟩ => ⟨S768x1536, .f32⟩
  | .local _ .vmem, ⟨11, _⟩ => ⟨S1x768, .f32⟩
  | .local _ .vmem, ⟨12, _⟩ => ⟨S256x768, .f32⟩
  | .local _ .vmem, ⟨13, _⟩ => ⟨S256x768, .f32⟩
  | .local _ .vmem, ⟨14, _⟩ => ⟨S16x1536, .f32⟩
  | .local _ .vmem, ⟨15, _⟩ => ⟨S8x1536, .f32⟩
  | .local _ .vmem, ⟨16, _⟩ => ⟨S264x1536, .f32⟩
  | .local _ .vmem, ⟨17, _⟩ => ⟨S256x1536, .f32⟩
  | .local _ .vmem, ⟨18, _⟩ => ⟨S256x1536, .f32⟩
  | .local _ .vmem, ⟨19, _⟩ => ⟨S256x16, .f32⟩
  | .local _ .vmem, ⟨20, _⟩ => ⟨S256x16, .f32⟩
  | .local _ .vmem, ⟨21, _⟩ => ⟨S256x1536, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_48 : BitVec 32 := 0#32
  let c32_i32 : BitVec 32 := 32#32
  let v105 : BitVec 32 := Scalar.addi c0_i32_48 c32_i32
  let c1_i32 : BitVec 32 := 1#32
  ⟨c0_i32_48, v105, c1_i32⟩
def k0_mult1 (k0_t1 : Fin k0_t1_loop.trips) : BitVec 32 :=
  let c0_i32_48 : BitVec 32 := 0#32
  let c1_i32 : BitVec 32 := 1#32
  let arg21 : BitVec 32 := Scf.iv c0_i32_48 c1_i32 k0_t1
  let c8_i32 : BitVec 32 := 8#32
  let v123 : BitVec 32 := Scalar.muli arg21 c8_i32
  v123
def k0_off1 (k0_t1 : Fin k0_t1_loop.trips) : Fin 2 → Nat :=
  let c0_i32_48 : BitVec 32 := 0#32
  let c1_i32 : BitVec 32 := 1#32
  let arg21 : BitVec 32 := Scf.iv c0_i32_48 c1_i32 k0_t1
  let c8_i32 : BitVec 32 := 8#32
  let v123 : BitVec 32 := Scalar.muli arg21 c8_i32
  let v124 : BitVec 32 := v123
  let v125 : Index := Scalar.indexCast v124
  let c0_61 : Index := 0#32
  ![v125.toNat, 0]
def k0_off2 (k0_t1 : Fin k0_t1_loop.trips) : Fin 2 → Nat :=
  let c0_i32_48 : BitVec 32 := 0#32
  let c1_i32 : BitVec 32 := 1#32
  let arg21 : BitVec 32 := Scf.iv c0_i32_48 c1_i32 k0_t1
  let c8_i32 : BitVec 32 := 8#32
  let v123 : BitVec 32 := Scalar.muli arg21 c8_i32
  let v124 : BitVec 32 := v123
  let v129 : Index := Scalar.indexCast v124
  let c0_63 : Index := 0#32
  ![v129.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LayerRefIdeal.lean ====
abbrev S2048x768 : Shape := ⟨2, ![2048, 768]⟩
abbrev S768 : Shape := ⟨1, ![768]⟩
abbrev S3072x768 : Shape := ⟨2, ![3072, 768]⟩
abbrev S1536x4 : Shape := ⟨2, ![1536, 4]⟩
abbrev S1536 : Shape := ⟨1, ![1536]⟩
abbrev S80x1536 : Shape := ⟨2, ![80, 1536]⟩
abbrev S1536x48 : Shape := ⟨2, ![1536, 48]⟩
abbrev S1536x16 : Shape := ⟨2, ![1536, 16]⟩
abbrev S768x1536 : Shape := ⟨2, ![768, 1536]⟩
abbrev S_ : Shape := ⟨0, ![]⟩
abbrev S2048 : Shape := ⟨1, ![2048]⟩
abbrev S2048x1 : Shape := ⟨2, ![2048, 1]⟩
abbrev S1x768 : Shape := ⟨2, ![1, 768]⟩
abbrev S768x3072 : Shape := ⟨2, ![768, 3072]⟩
abbrev S2048x3072 : Shape := ⟨2, ![2048, 3072]⟩
abbrev S2048x1536 : Shape := ⟨2, ![2048, 1536]⟩
abbrev S2051x1536 : Shape := ⟨2, ![2051, 1536]⟩
abbrev S1536x1 : Shape := ⟨2, ![1536, 1]⟩
abbrev S1x1536 : Shape := ⟨2, ![1, 1536]⟩
abbrev S1536x80 : Shape := ⟨2, ![1536, 80]⟩
abbrev S2048x80 : Shape := ⟨2, ![2048, 80]⟩
abbrev S2048x48 : Shape := ⟨2, ![2048, 48]⟩
abbrev S2048x16 : Shape := ⟨2, ![2048, 16]⟩
abbrev S48x1536 : Shape := ⟨2, ![48, 1536]⟩
abbrev S1x16 : Shape := ⟨2, ![1, 16]⟩
abbrev S16 : Shape := ⟨1, ![16]⟩
abbrev S1536x768 : Shape := ⟨2, ![1536, 768]⟩

abbrev nBuf : Space → Nat
  | .hbm => 161
  | .vmem => 0
  | .smem => 0
  | _ => 0

abbrev hbmTy0_0 (i : Nat) : BufTy := match i % 128 with
  | 0 => ⟨S2048x768, .f32⟩
  | 1 => ⟨S768, .f32⟩
  | 2 => ⟨S3072x768, .f32⟩
  | 3 => ⟨S1536x4, .f32⟩
  | 4 => ⟨S1536, .f32⟩
  | 5 => ⟨S80x1536, .f32⟩
  | 6 => ⟨S1536x48, .f32⟩
  | 7 => ⟨S1536, .f32⟩
  | 8 => ⟨S1536x16, .f32⟩
  | 9 => ⟨S1536, .f32⟩
  | 10 => ⟨S768x1536, .f32⟩
  | 11 => ⟨S2048x768, .f32⟩
  | 12 => ⟨S_, .f32⟩
  | 13 => ⟨S2048, .f32⟩
  | 14 => ⟨S2048x1, .f32⟩
  | 15 => ⟨S_, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1, .f32⟩
  | 22 => ⟨S2048x768, .f32⟩
  | 23 => ⟨S2048x768, .f32⟩
  | 24 => ⟨S1x768, .f32⟩
  | 25 => ⟨S2048x768, .f32⟩
  | 26 => ⟨S2048x768, .f32⟩
  | 27 => ⟨S768x3072, .f32⟩
  | 28 => ⟨S2048x3072, .f32⟩
  | 29 => ⟨S2048x1536, .f32⟩
  | 30 => ⟨S2048x1536, .f32⟩
  | 31 => ⟨S_, .i32⟩
  | 32 => ⟨S_, .f32⟩
  | 33 => ⟨S2051x1536, .f32⟩
  | 34 => ⟨S2048x1536, .f32⟩
  | 35 => ⟨S1536x1, .f32⟩
  | 36 => ⟨S1536, .f32⟩
  | 37 => ⟨S1x1536, .f32⟩
  | 38 => ⟨S2048x1536, .f32⟩
  | 39 => ⟨S2048x1536, .f32⟩
  | 40 => ⟨S1x1536, .f32⟩
  | 41 => ⟨S2048x1536, .f32⟩
  | 42 => ⟨S2048x1536, .f32⟩
  | 43 => ⟨S2048x1536, .f32⟩
  | 44 => ⟨S1536x1, .f32⟩
  | 45 => ⟨S1536, .f32⟩
  | 46 => ⟨S1x1536, .f32⟩
  | 47 => ⟨S2048x1536, .f32⟩
  | 48 => ⟨S2048x1536, .f32⟩
  | 49 => ⟨S2048x1536, .f32⟩
  | 50 => ⟨S2048x1536, .f32⟩
  | 51 => ⟨S1536x1, .f32⟩
  | 52 => ⟨S1536, .f32⟩
  | 53 => ⟨S1x1536, .f32⟩
  | 54 => ⟨S2048x1536, .f32⟩
  | 55 => ⟨S2048x1536, .f32⟩
  | 56 => ⟨S2048x1536, .f32⟩
  | 57 => ⟨S2048x1536, .f32⟩
  | 58 => ⟨S1536x1, .f32⟩
  | 59 => ⟨S1536, .f32⟩
  | 60 => ⟨S1x1536, .f32⟩
  | 61 => ⟨S2048x1536, .f32⟩
  | 62 => ⟨S2048x1536, .f32⟩
  | 63 => ⟨S2048x1536, .f32⟩
  | 64 => ⟨S2048x1536, .f32⟩
  | 65 => ⟨S2048x1536, .f32⟩
  | 66 => ⟨S_, .f32⟩
  | 67 => ⟨S2048x1536, .f32⟩
  | 68 => ⟨S2048x1536, .f32⟩
  | 69 => ⟨S_, .f32⟩
  | 70 => ⟨S2048x1536, .f32⟩
  | 71 => ⟨S2048x1536, .f32⟩
  | 72 => ⟨S2048x1536, .f32⟩
  | 73 => ⟨S1536x80, .f32⟩
  | 74 => ⟨S2048x80, .f32⟩
  | 75 => ⟨S2048x48, .f32⟩
  | 76 => ⟨S2048x16, .f32⟩
  | 77 => ⟨S2048x16, .f32⟩
  | 78 => ⟨S48x1536, .f32⟩
  | 79 => ⟨S2048x1536, .f32⟩
  | 80 => ⟨S1x1536, .f32⟩
  | 81 => ⟨S2048x1536, .f32⟩
  | 82 => ⟨S2048x1536, .f32⟩
  | 83 => ⟨S_, .f32⟩
  | 84 => ⟨S2048x1536, .f32⟩
  | 85 => ⟨S2048x1536, .f32⟩
  | 86 => ⟨S2048x1536, .f32⟩
  | 87 => ⟨S2048x1536, .f32⟩
  | 88 => ⟨S2048x1536, .i1⟩
  | 89 => ⟨S2048x1536, .f32⟩
  | 90 => ⟨S2048x1536, .f32⟩
  | 91 => ⟨S2048x1536, .f32⟩
  | 92 => ⟨S2048x1536, .f32⟩
  | 93 => ⟨S2048x1536, .f32⟩
  | 94 => ⟨S2048x1536, .f32⟩
  | 95 => ⟨S2048x1536, .f32⟩
  | 96 => ⟨S2048x1536, .f32⟩
  | 97 => ⟨S1536x16, .f32⟩
  | 98 => ⟨S1536x16, .f32⟩
  | 99 => ⟨S_, .f32⟩
  | 100 => ⟨S1536x16, .f32⟩
  | 101 => ⟨S_, .f32⟩
  | 102 => ⟨S2048x1536, .f32⟩
  | 103 => ⟨S_, .i32⟩
  | 104 => ⟨S2048x1536, .f32⟩
  | 105 => ⟨S2048x1536, .f32⟩
  | 106 => ⟨S2048x16, .f32⟩
  | 107 => ⟨S2048x16, .f32⟩
  | 108 => ⟨S1536x16, .f32⟩
  | 109 => ⟨S_, .i32⟩
  | 110 => ⟨S1536x16, .f32⟩
  | 111 => ⟨S2048x1536, .f32⟩
  | 112 => ⟨S_, .i32⟩
  | 113 => ⟨S_, .i1⟩
  | 114 => ⟨S_, .i32⟩
  | 115 => ⟨S1x1536, .f32⟩
  | 116 => ⟨S1536, .f32⟩
  | 117 => ⟨S_, .i32⟩
  | 118 => ⟨S1x1536, .f32⟩
  | 119 => ⟨S1536, .f32⟩
  | 120 => ⟨S_, .i32⟩
  | 121 => ⟨S1x16, .f32⟩
  | 122 => ⟨S16, .f32⟩
  | 123 => ⟨S_, .i32⟩
  | 124 => ⟨S1x16, .f32⟩
  | 125 => ⟨S16, .f32⟩
  | 126 => ⟨S1536x1, .f32⟩
  | 127 => ⟨S1536x16, .f32⟩
  | _ => ⟨S2048x768, .f32⟩

abbrev hbmTy0_1 (i : Nat) : BufTy := match i % 128 with
  | 0 => ⟨S1536x16, .f32⟩
  | 1 => ⟨S1536x16, .f32⟩
  | 2 => ⟨S1536x16, .f32⟩
  | 3 => ⟨S1536, .f32⟩
  | 4 => ⟨S1536x1, .f32⟩
  | 5 => ⟨S1x16, .f32⟩
  | 6 => ⟨S1536x16, .f32⟩
  | 7 => ⟨S1536x16, .f32⟩
  | 8 => ⟨S1536x16, .f32⟩
  | 9 => ⟨S1536x16, .f32⟩
  | 10 => ⟨S1536, .f32⟩
  | 11 => ⟨S1x1536, .f32⟩
  | 12 => ⟨S_, .i32⟩
  | 13 => ⟨S2048x1536, .f32⟩
  | 14 => ⟨S_, .i32⟩
  | 15 => ⟨S_, .i32⟩
  | 16 => ⟨S1x1536, .f32⟩
  | 17 => ⟨S2048x1536, .f32⟩
  | 18 => ⟨S2048x1536, .f32⟩
  | 19 => ⟨S2048x1536, .f32⟩
  | 20 => ⟨S2048x1536, .f32⟩
  | 21 => ⟨S2048x1536, .f32⟩
  | 22 => ⟨S_, .f32⟩
  | 23 => ⟨S2048x1536, .f32⟩
  | 24 => ⟨S2048x1536, .f32⟩
  | 25 => ⟨S_, .f32⟩
  | 26 => ⟨S2048x1536, .f32⟩
  | 27 => ⟨S2048x1536, .f32⟩
  | 28 => ⟨S2048x1536, .f32⟩
  | 29 => ⟨S2048x1536, .f32⟩
  | 30 => ⟨S1536x768, .f32⟩
  | 31 => ⟨S2048x768, .f32⟩
  | 32 => ⟨S2048x768, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_2 : Ref sig .tc := ⟨.hbm, 99, rfl⟩
abbrev main_v62 : Ref sig .tc := ⟨.hbm, 100, rfl⟩
abbrev main_cst_3 : Ref sig .tc := ⟨.hbm, 101, rfl⟩
abbrev main_v63 : Ref sig .tc := ⟨.hbm, 102, rfl⟩
abbrev main_c_4 : Ref sig .tc := ⟨.hbm, 103, rfl⟩
abbrev main_v64_0 : Ref sig .tc := ⟨.hbm, 104, rfl⟩
abbrev main_v64_1 : Ref sig .tc := ⟨.hbm, 105, rfl⟩
abbrev main_v64_2 : Ref sig .tc := ⟨.hbm, 106, rfl⟩
abbrev main_v64_3 : Ref sig .tc := ⟨.hbm, 107, rfl⟩
abbrev main_v64_4 : Ref sig .tc := ⟨.hbm, 108, rfl⟩
abbrev main_v64_5 : Ref sig .tc := ⟨.hbm, 109, rfl⟩
abbrev main_v64_6 : Ref sig .tc := ⟨.hbm, 110, rfl⟩
abbrev main_v64_7 : Ref sig .tc := ⟨.hbm, 111, rfl⟩
abbrev main_while0c_c_12 : Ref sig .tc := ⟨.hbm, 112, rfl⟩
abbrev main_while0c_v74 : Ref sig .tc := ⟨.hbm, 113, rfl⟩
abbrev main_while0b_call3_c : Ref sig .tc := ⟨.hbm, 114, rfl⟩
abbrev main_while0b_call3_v0 : Ref sig .tc := ⟨.hbm, 115, rfl⟩
abbrev main_while0b_v74 : Ref sig .tc := ⟨.hbm, 116, rfl⟩
abbrev main_while0b_call4_c : Ref sig .tc := ⟨.hbm, 117, rfl⟩
abbrev main_while0b_call4_v0 : Ref sig .tc := ⟨.hbm, 118, rfl⟩
abbrev main_while0b_v75 : Ref sig .tc := ⟨.hbm, 119, rfl⟩
abbrev main_while0b_call5_c : Ref sig .tc := ⟨.hbm, 120, rfl⟩
abbrev main_while0b_call5_v0 : Ref sig .tc := ⟨.hbm, 121, rfl⟩
abbrev main_while0b_v76 : Ref sig .tc := ⟨.hbm, 122, rfl⟩
abbrev main_while0b_call6_c : Ref sig .tc := ⟨.hbm, 123, rfl⟩
abbrev main_while0b_call6_v0 : Ref sig .tc := ⟨.hbm, 124, rfl⟩
abbrev main_while0b_v77 : Ref sig .tc := ⟨.hbm, 125, rfl⟩
abbrev main_while0b_v78 : Ref sig .tc := ⟨.hbm, 126, rfl⟩
abbrev main_while0b_v79 : Ref sig .tc := ⟨.hbm, 127, rfl⟩
abbrev main_while0b_v80 : Ref sig .tc := ⟨.hbm, 128, rfl⟩
abbrev main_while0b_v81 : Ref sig .tc := ⟨.hbm, 129, rfl⟩
abbrev main_while0b_v82 : Ref sig .tc := ⟨.hbm, 130, rfl⟩
abbrev main_while0b_v83 : Ref sig .tc := ⟨.hbm, 131, rfl⟩
abbrev main_while0b_v84 : Ref sig .tc := ⟨.hbm, 132, rfl⟩
abbrev main_while0b_v85 : Ref sig .tc := ⟨.hbm, 133, rfl⟩
abbrev main_while0b_v86 : Ref sig .tc := ⟨.hbm, 134, rfl⟩
abbrev main_while0b_v87 : Ref sig .tc := ⟨.hbm, 135, rfl⟩
abbrev main_while0b_v88 : Ref sig .tc := ⟨.hbm, 136, rfl⟩
abbrev main_while0b_v89 : Ref sig .tc := ⟨.hbm, 137, rfl⟩
abbrev main_while0b_v90 : Ref sig .tc := ⟨.hbm, 138, rfl⟩
abbrev main_while0b_call7_v0 : Ref sig .tc := ⟨.hbm, 139, rfl⟩
abbrev main_while0b_call7_c : Ref sig .tc := ⟨.hbm, 140, rfl⟩
abbrev main_while0b_v91 : Ref sig .tc := ⟨.hbm, 141, rfl⟩
abbrev main_while0b_c_12 : Ref sig .tc := ⟨.hbm, 142, rfl⟩
abbrev main_while0b_v92 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_call8_v0 : Ref sig .tc := ⟨.hbm, 148, rfl⟩
abbrev main_call8_v1 : Ref sig .tc := ⟨.hbm, 149, rfl⟩
abbrev main_call8_cst : Ref sig .tc := ⟨.hbm, 150, rfl⟩
abbrev main_call8_v2 : Ref sig .tc := ⟨.hbm, 151, rfl⟩
abbrev main_call8_v3 : Ref sig .tc := ⟨.hbm, 152, rfl⟩
abbrev main_call8_cst_0 : Ref sig .tc := ⟨.hbm, 153, rfl⟩
abbrev main_call8_v4 : Ref sig .tc := ⟨.hbm, 154, rfl⟩
abbrev main_call8_v5 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩

abbrev nD : Nat := 1
abbrev τ : Topo := Topo.v7x

variable {F : FTy → Type} [FloatOps F]

abbrev main_while0_count : Scf.Loop 32 := ⟨0#32, 2048#32, 1#32⟩
-- ==== Proof.HeadFrame.lean ====
/- The lm-head program terminates and leaves its arguments alone, at any float values: the outputs' contents are not
   named here. -/
module

public import proofs.«01_k».proof.Proof.HeadPoints

@[expose] public section

set_option maxRecDepth 16384

noncomputable section

namespace Cert.Head.Body

open Cert.Head Cert.Head.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the call write. -/
def T0 : Finset (Ref sig .tc) := {main_c, main_cst, main_cst_0, main_cst_1, main_v10, main_v11, main_v12, main_v13, main_v14, main_v15, main_v16, main_v17, main_v18, main_v2, main_v3, main_v4, main_v5, main_v6, main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No window's contents are named. -/
def forgets0 : Fin 7 → Bool := fun _ => true

/-- The proof data: the arrays as the call finds them, nothing named of what the body leaves. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))
/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq]
  iintro ⟨⟨⟨⟨%xs, HS0⟩, ⟨%a, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply (body c (grid0.coords t) _ (hs0_0 t) _ (hs0_1 t) _ (hs0_2 t) _ (hs0_3 t) _ (hs0_4 t) _ (hs0_5 t) _ (hs0_6 t) _ _ _ _ d0 d1 d2 d3 d4 d5 d6 xs a (edge_iff_not_inner t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexists _; iexact H6

theorem body_obligation (c : Dev nD) : BodyObligation (dats (F := F) m 0 c) (defs₀ (F := F)) Variants.none () Set.univ forgets0 := fun t => by
  rw [bigSep_W0, bigSep_W0, defs₀_row]
  exact sound_body m c t

set_option backward.isDefEq.respectTransparency.types false in
set_option maxHeartbeats 800000 in
/-- The run: it terminates, every semaphore is back at zero, every array the call only reads is unchanged. -/
theorem run_main : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- The frame: the run terminates, the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      (Pipeline.RDat.FramePostR.arr_in h.1 c 0 rfl).trans ((A_eq m c 0).trans (V_main_arg1 m c)),
      (Pipeline.RDat.FramePostR.arr_in h.1 c 1 rfl).trans ((A_eq m c 1).trans (V_main_arg2 m c)),
      ((h.1 c).2 main_arg3 (Finset.mem_sdiff.mpr ⟨Pipeline.mem_restRefs_of main_arg3 (by decide) (by decide), by decide⟩)).trans (V_main_arg3 m c),
      (Pipeline.RDat.FramePostR.arr_in h.1 c 3 rfl).trans ((A_eq m c 3).trans (V_main_arg4 m c))⟩, h.2⟩) (run_main m ρ)

end Cert.Head.Body

end
-- ==== Proof.HeadIdealBody.lean ====
/- The lm-head kernel's body at one grid point: what it leaves in each buffer it is called with, as functions of what
   those buffers held, at any float values. -/
module

public import proofs.«01_k».proof.Proof.Gen.HeadIdeal.Frame
public import proofs.«01_k».proof.Proof.Gen.HeadIdeal.Skeleton
public import Idealize.ShloMosaic.Lib.Pipeline.ValueKit

@[expose] public section

set_option maxRecDepth 16384

noncomputable section

namespace Cert.HeadIdeal.Body

open Cert.HeadIdeal Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- First column block of this half of the vocabulary. -/
abbrev isFirst (i : grid0.Coords) : Prop := k0_cond1 i = 1#1
/-- The column block lies inside the vocabulary. -/
abbrev isInner (i : grid0.Coords) : Prop := (Scalar.cmpi .ne (Scalar.extui (Scalar.cmpi .slt (Scalar.addi (Scalar.muli (BitVec.ofNat 32 (i 0).val) 50#32) (BitVec.ofNat 32 (i 1).val)) 98#32)) 0#32) = 1#1
/-- The column block reaches past the vocabulary's end. -/
abbrev isEdge (i : grid0.Coords) : Prop := (Scalar.cmpi .ne (Scalar.extui (Scalar.cmpi .sge (Scalar.addi (Scalar.muli (BitVec.ofNat 32 (i 0).val) 50#32) (BitVec.ofNat 32 (i 1).val)) 98#32)) 0#32) = 1#1
/-- Last column block of this half. -/
abbrev isLast (i : grid0.Coords) : Prop := k0_cond4 i = 1#1

instance (i : grid0.Coords) : Decidable (isFirst i) := inferInstanceAs (Decidable (_ = _))
instance (i : grid0.Coords) : Decidable (isInner i) := inferInstanceAs (Decidable (_ = _))
instance (i : grid0.Coords) : Decidable (isEdge i) := inferInstanceAs (Decidable (_ = _))
instance (i : grid0.Coords) : Decidable (isLast i) := inferInstanceAs (Decidable (_ = _))

/-- The normalised rows after the body. -/
def xfOut (i : grid0.Coords) (x0 : Vec F S2048x768 .f32) (x2 : Vec F S1x768 .f32) (xs : Vec F S2048x768 .f32) : Vec F S2048x768 .f32 :=
  if isFirst i then k0_pay2 x0 x2 else xs
/-- The running sum as the block's addition finds it. -/
def accIn (i : grid0.Coords) (a : Vec F S2048x1 .f32) : Vec F S2048x1 .f32 :=
  if isFirst i then k0_pay4 (F := F) else a
/-- The running sum after a block inside the vocabulary, -/
def accMid (i : grid0.Coords) (X : Vec F S2048x768 .f32) (E : Vec F S512x768 .f32) (a : Vec F S2048x1 .f32) : Vec F S2048x1 .f32 :=
  if isInner i then k0_pay6 X E (accIn i a) else accIn i a
/-- and after the body. -/
def accOut (i : grid0.Coords) (X : Vec F S2048x768 .f32) (E : Vec F S512x768 .f32) (a : Vec F S2048x1 .f32) : Vec F S2048x1 .f32 :=
  if isEdge i then k0_pay7 i X E (accMid i X E a) else accMid i X E a
/-- The row sums' block after the body. -/
def sOut (i : grid0.Coords) (A : Vec F S2048x1 .f32) (d : Vec F S2048x128 .f32) : Vec F S2048x128 .f32 :=
  if isLast i then k0_pay8 A else d
/-- The target products after the body. -/
def tOut (i : grid0.Coords) (x0 : Vec F S2048x768 .f32) (x2 : Vec F S1x768 .f32) (x1 : Vec F S2048x768 .f32) (d : Vec F S2048x1 .f32) : Vec F S2048x1 .f32 :=
  if isFirst i then k0_pay3 x0 x2 x1 else d

theorem zeros2 : (![0, 0] : Fin 2 → Nat) = fun _ => 0 := funext fun a => by fin_cases a <;> rfl

/-- A buffer whose last store covered it reads that store's payload. -/
theorem read_last {sp : Space} {S : Shape} {e : EltTy} (v : View sig .tc sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self, by
    subst h; show y ∈ (Rect.whole S).set; rw [Rect.set_whole]; exact Finset.mem_univ y⟩), View.canon_cons_unit_zero h]

set_option maxHeartbeats 2000000 in
/-- THE BODY at a point: every buffer it is called with, held whole, ends at the function of what the buffers held. -/
theorem body (c : Dev nD) (i : grid0.Coords) (arg2 : Memref sig .tc .vmem S2048x768 .f32) (harg2 : arg2.IsWhole) (arg3 : Memref sig .tc .vmem S2048x768 .f32) (harg3 : arg3.IsWhole) (arg4 : Memref sig .tc .vmem S1x768 .f32) (harg4 : arg4.IsWhole) (arg5 : Memref sig .tc .vmem S512x768 .f32) (harg5 : arg5.IsWhole) (arg6 : Memref sig .tc .vmem S2048x512 .f32) (harg6 : arg6.IsWhole) (arg7 : Memref sig .tc .vmem S2048x128 .f32) (harg7 : arg7.IsWhole) (arg8 : Memref sig .tc .vmem S2048x1 .f32) (harg8 : arg8.IsWhole) (arg9 : Memref sig .tc .vmem S2048x768 .f32) (harg9 : arg9.IsWhole) (arg10 : Memref sig .tc .vmem S2048x1 .f32) (harg10 : arg10.IsWhole)
    (x0 : Vec F S2048x768 .f32) (x1 : Vec F S2048x768 .f32) (x2 : Vec F S1x768 .f32) (x3 : Vec F S512x768 .f32) (d4 : Vec F S2048x512 .f32) (d5 : Vec F S2048x128 .f32) (d6 : Vec F S2048x1 .f32) (xs : Vec F S2048x768 .f32) (a : Vec F S2048x1 .f32)
    (hex : isEdge i ↔ ¬isInner i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare d6 ∗ owns (c : Thread nD τ) arg9 fullShare xs ∗ owns (c : Thread nD τ) arg10 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 (xfOut i x0 x2 xs) x3) ∗ owns (c : Thread nD τ) arg7 fullShare (sOut i (accOut i (xfOut i x0 x2 xs) x3 a) d5) ∗ owns (c : Thread nD τ) arg8 fullShare (tOut i x0 x2 x1 d6) ∗ owns (c : Thread nD τ) arg9 fullShare (xfOut i x0 x2 xs) ∗ owns (c : Thread nD τ) arg10 fullShare (accOut i (xfOut i x0 x2 xs) x3 a)) -∗ K ⟨⟩))
      ⊢ wp frame (wpE (defs₀ (F := F)) Variants.none c none) E (cc0_lm_head i arg2 harg2 arg3 harg3 arg4 harg4 arg5 harg5 arg6 harg6 arg7 harg7 arg8 harg8 arg9 harg9 arg10 harg10) K := by
  simp only [cc0_lm_head_eq_skeleton]; unfold cc0_lm_head_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg9.eq_unread hfs0; obtain rfl := harg10.eq_unread hfs1
  rcases (show (isInner i ∧ ¬isEdge i) ∨ (¬isInner i ∧ isEdge i) from (em (isInner i)).imp (fun h => ⟨h, fun h' => hex.mp h' h⟩) fun h => ⟨h, hex.mpr h⟩) with ⟨hc1, hc2⟩ | ⟨hc1, hc2⟩ <;> by_cases hc0 : isFirst i <;> by_cases hc3 : isLast i
  all_goals
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      (try sl_unfold_words)
      simp only [xfOut, accOut, accMid, accIn, sOut, tOut]
      (first | simp only [if_pos hc0] | simp only [if_neg hc0] | skip)
      (first | simp only [if_pos hc1] | simp only [if_neg hc1] | skip)
      (first | simp only [if_pos hc2] | simp only [if_neg hc2] | skip)
      (first | simp only [if_pos hc3] | simp only [if_neg hc3] | skip)
      (first | with_reducible exact hf4 | (with_reducible refine (read_last _ _ zeros2 _ _ _).trans ?_; simp (disch := decide) only [View.readAt_eq_ld, Memref.IsWhole.read_unread, View.ld_unit_lit', View.readCov_unit_lit', View.readCov_cons_unit_lit']))
    isplitl [H5]
    · iexists _; isplitr; swap; · iexact H5
      ipureintro
      (try sl_unfold_words)
      simp only [xfOut, accOut, accMid, accIn, sOut, tOut]
      (first | simp only [if_pos hc0] | simp only [if_neg hc0] | skip)
      (first | simp only [if_pos hc1] | simp only [if_neg hc1] | skip)
      (first | simp only [if_pos hc2] | simp only [if_neg hc2] | skip)
      (first | simp only [if_pos hc3] | simp only [if_neg hc3] | skip)
      (first | with_reducible exact hf5 | (with_reducible refine (read_last _ _ zeros2 _ _ _).trans ?_; simp (disch := decide) only [View.readAt_eq_ld, Memref.IsWhole.read_unread, View.ld_unit_lit', View.readCov_unit_lit', View.readCov_cons_unit_lit']))
    isplitl [H6]
    · iexists _; isplitr; swap; · iexact H6
      ipureintro
      (try sl_unfold_words)
      simp only [xfOut, accOut, accMid, accIn, sOut, tOut]
      (first | simp only [if_pos hc0] | simp only [if_neg hc0] | skip)
      (first | simp only [if_pos hc1] | simp only [if_neg hc1] | skip)
      (first | simp only [if_pos hc2] | simp only [if_neg hc2] | skip)
      (first | simp only [if_pos hc3] | simp only [if_neg hc3] | skip)
      (first | with_reducible exact hf6 | (with_reducible refine (read_last _ _ zeros2 _ _ _).trans ?_; simp (disch := decide) only [View.readAt_eq_ld, Memref.IsWhole.read_unread, View.ld_unit_lit', View.readCov_unit_lit', View.readCov_cons_unit_lit']))
    isplitl [HS0]
    · iexists _; isplitr; swap; · iexact HS0
      ipureintro
      (try sl_unfold_words)
      simp only [xfOut, accOut, accMid, accIn, sOut, tOut]
      (first | simp only [if_pos hc0] | simp only [if_neg hc0] | skip)
      (first | simp only [if_pos hc1] | simp only [if_neg hc1] | skip)
      (first | simp only [if_pos hc2] | simp only [if_neg hc2] | skip)
      (first | simp only [if_pos hc3] | simp only [if_neg hc3] | skip)
      (first | with_reducible exact (harg9.read_unread _) | (with_reducible refine (read_last _ _ zeros2 _ _ _).trans ?_; simp (disch := decide) only [View.readAt_eq_ld, Memref.IsWhole.read_unread, View.ld_unit_lit', View.readCov_unit_lit', View.readCov_cons_unit_lit']))
    iexists _; isplitr; swap; · iexact HS1
    · ipureintro
      (try sl_unfold_words)
      simp only [xfOut, accOut, accMid, accIn, sOut, tOut]
      (first | simp only [if_pos hc0] | simp only [if_neg hc0] | skip)
      (first | simp only [if_pos hc1] | simp only [if_neg hc1] | skip)
      (first | simp only [if_pos hc2] | simp only [if_neg hc2] | skip)
      (first | simp only [if_pos hc3] | simp only [if_neg hc3] | skip)
      (first | with_reducible exact (harg10.read_unread _) | (with_reducible refine (read_last _ _ zeros2 _ _ _).trans ?_; simp (disch := decide) only [View.readAt_eq_ld, Memref.IsWhole.read_unread, View.ld_unit_lit', View.readCov_unit_lit', View.readCov_cons_unit_lit']))

end Cert.HeadIdeal.Body

end
-- ==== Proof.HeadIdealPoints.lean ====
/- The lm-head kernel's grid: which branch of the body each point takes, and the buffers the body is called with. -/
module

public import proofs.«01_k».proof.Proof.HeadIdealBody

@[expose] public section

set_option maxRecDepth 16384

noncomputable section

namespace Cert.HeadIdeal.Body

open Cert.HeadIdeal Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branches, point by point -/

/-- A half starts at the points ≡ 0 (mod 50). -/
theorem isFirst_iff : ∀ t : Fin cfg0.N, isFirst (grid0.coords t) ↔ t.val % 50 = 0 :=
  (by decide +kernel : ∀ t : Fin grid0.N, isFirst (grid0.coords t) ↔ t.val % 50 = 0)
/-- The blocks inside the vocabulary are those before point 98. -/
theorem isInner_iff : ∀ t : Fin cfg0.N, isInner (grid0.coords t) ↔ t.val < 98 :=
  (by decide +kernel : ∀ t : Fin grid0.N, isInner (grid0.coords t) ↔ t.val < 98)
theorem isEdge_iff : ∀ t : Fin cfg0.N, isEdge (grid0.coords t) ↔ 98 ≤ t.val :=
  (by decide +kernel : ∀ t : Fin grid0.N, isEdge (grid0.coords t) ↔ 98 ≤ t.val)
/-- A half ends at the points ≡ 49 (mod 50). -/
theorem isLast_iff : ∀ t : Fin cfg0.N, isLast (grid0.coords t) ↔ t.val % 50 = 49 :=
  (by decide +kernel : ∀ t : Fin grid0.N, isLast (grid0.coords t) ↔ t.val % 50 = 49)
theorem edge_iff_not_inner (t : Fin cfg0.N) : isEdge (grid0.coords t) ↔ ¬isInner (grid0.coords t) := by
  rw [isEdge_iff, isInner_iff]; omega

/-! ## The buffers -/

abbrev ms0_0 (t : Fin cfg0.N) : Memref sig .tc .vmem S2048x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x1 .f32 := win0_6.stage (cfg0.slots t 6)
abbrev hs0_6 (t : Fin cfg0.N) : (ms0_6 t).IsWhole := hstage0_6 ((cfg0.slots t 6).cast nbuf0_6)
/-- The scratch operands: the normalised rows and the running sum. -/
abbrev scM0_0 : Memref sig .tc .vmem S2048x768 .f32 := Memref.whole cc0_scratch0
abbrev scM0_1 : Memref sig .tc .vmem S2048x1 .f32 := Memref.whole cc0_scratch1

/-- What the launch hands the region beside the windows: both scratch buffers at some contents and the generator. -/
theorem PhiA_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

end Cert.HeadIdeal.Body

end
-- ==== Proof.HeadIdealVals.lean ====
/- The lm-head kernel's payloads read at an index, at the ideal values. -/
module

public import proofs.«01_k».proof.Proof.Gen.HeadIdeal.Skeleton
public import Idealize.ShloMosaic.Lib.Pointwise
public import Idealize.ShloMosaic.Lib.WordCmp

@[expose] public section

noncomputable section

namespace Cert.HeadIdeal.Vals

open Cert.HeadIdeal Cert.HeadIdeal.Gen
open Idealize.ShloMosaic Idealize.ShloMosaic.TcCoe

/-- The word of minus infinity. -/
theorem neg_inf : Ideal.ofBits .f32 0xFF800000#32 = ⊥ := by simp [Ideal.ofBits, Ideal.ieee]

/-- The logits of a block of columns: row `r` against the block's row `k`. -/
theorem pay5_apply (X : FVec Ideal S2048x768 .f32) (E : FVec Ideal S512x768 .f32) (r : Fin 2048) (k : Fin 512) :
    k0_pay5 (F := Ideal) X E (ix2 r k) = ∑ q : Fin 768, X (ix2 r q) * E (ix2 k q) := by
  pointwise [k0_pay5]

theorem pay6_apply (X : FVec Ideal S2048x768 .f32) (E : FVec Ideal S512x768 .f32) (a : FVec Ideal S2048x1 .f32) (r : Fin 2048) :
    k0_pay6 (F := Ideal) X E a (ix2 r 0) = a (ix2 r 0) + ∑ k : Fin 512, Ideal.exp (∑ q : Fin 768, X (ix2 r q) * E (ix2 k q)) := by
  pointwise [k0_pay6, k0_pay5]

/-- The mask's word comparison, as naturals. -/
theorem mask_eq {a b k : Nat} (ha : a < 2) (hb : b < 50) (hk : k < 512) :
    IntOp.cmpi .slt (IntOp.addi (Scalar.muli (Scalar.addi (Scalar.muli (BitVec.ofNat 32 a) 50#32) (BitVec.ofNat 32 b)) 512#32) (BitVec.ofNat 32 k)) 50257#32
      = BitVec.ofBool (decide ((a * 50 + b) * 512 + k < 50257)) := by
  have e : (IntOp.addi (Scalar.muli (Scalar.addi (Scalar.muli (BitVec.ofNat 32 a) 50#32) (BitVec.ofNat 32 b)) 512#32) (BitVec.ofNat 32 k)) = BitVec.ofNat 32 ((a * 50 + b) * 512 + k) := by
    show IntOp.addi (IntOp.muli (IntOp.addi (IntOp.muli (BitVec.ofNat 32 a) (BitVec.ofNat 32 50)) (BitVec.ofNat 32 b)) (BitVec.ofNat 32 512)) (BitVec.ofNat 32 k) = _
    rw [WordCmp.muli_ofNat, WordCmp.addi_ofNat, WordCmp.muli_ofNat, WordCmp.addi_ofNat]
  rw [e]
  have h : (a * 50 + b) * 512 + k < 2 ^ 31 := by omega
  generalize (a * 50 + b) * 512 + k = n at h
  simp (disch := omega) only [hlo_ix]

theorem pay7_apply (i : grid0.Coords) (X : FVec Ideal S2048x768 .f32) (E : FVec Ideal S512x768 .f32) (a : FVec Ideal S2048x1 .f32) (r : Fin 2048) :
    k0_pay7 (F := Ideal) i X E a (ix2 r 0) = a (ix2 r 0) + ∑ k : Fin 512, if ((i 0).val * 50 + (i 1).val) * 512 + k.val < 50257 then Ideal.exp (∑ q : Fin 768, X (ix2 r q) * E (ix2 k q)) else 0 := by
  pointwise [k0_pay7, k0_pay5]
  congr 1
  refine Finset.sum_congr rfl fun k _ => ?_
  rw [mask_eq (i 0).isLt (i 1).isLt k.isLt]
  unfold Scalar.select
  by_cases h : ((i 0).val * 50 + (i 1).val) * 512 + k.val < 50257
  · rw [if_pos h]; simp [h]
  · rw [if_neg h]; simp [h, neg_inf]

theorem pay3_apply (X : FVec Ideal S2048x768 .f32) (E : FVec Ideal S1x768 .f32) (T : FVec Ideal S2048x768 .f32) (r : Fin 2048) :
    k0_pay3 (F := Ideal) X E T (ix2 r 0) = ∑ q : Fin 768, k0_pay2 (F := Ideal) X E (ix2 r q) * T (ix2 r q) := by
  pointwise [k0_pay3, k0_pay2]

theorem pay2_apply (X : FVec Ideal S2048x768 .f32) (E : FVec Ideal S1x768 .f32) (r : Fin 2048) (k : Fin 768) :
    k0_pay2 (F := Ideal) X E (ix2 r k) = X (ix2 r k) * Ideal.rsqrt (Ideal.div (∑ q : Fin 768, X (ix2 r q) * X (ix2 r q)) (Ideal.ofBits .f32 0x44400000#32) + Ideal.ofBits .f32 0x3727C5AC#32) * E (ix2 0 k) := by
  pointwise [k0_pay2, k0_pay1]

theorem pay4_apply (r : Fin 2048) : k0_pay4 (F := Ideal) (ix2 r 0) = 0 := by
  pointwise [k0_pay4]

theorem pay8_apply (X : FVec Ideal S2048x1 .f32) (r : Fin 2048) (q : Fin 128) :
    k0_pay8 (F := Ideal) X (ix2 r q) = X (ix2 r 0) := by
  pointwise [k0_pay8]

/-- Rows of the block a sum reads decide it: the logits on the columns both blocks agree on, -/
theorem pay5_congr {X : FVec Ideal S2048x768 .f32} {E E' : FVec Ideal S512x768 .f32} {k : Fin 512} (h : ∀ q, E (ix2 k q) = E' (ix2 k q)) (r : Fin 2048) :
    k0_pay5 (F := Ideal) X E (ix2 r k) = k0_pay5 (F := Ideal) X E' (ix2 r k) := by
  rw [pay5_apply, pay5_apply]; exact Finset.sum_congr rfl fun q _ => by rw [h]

theorem col_ext {f g : FVec Ideal S2048x1 .f32} (h : ∀ r : Fin 2048, f (ix2 r 0) = g (ix2 r 0)) : f = g := by
  funext j
  have e : j = ix2 (j 0) 0 := by
    funext a; fin_cases a
    · rfl
    · exact Subsingleton.elim (α := Fin 1) _ _
  rw [e]; exact h _

/-- and the masked sums of exponentials where the blocks agree inside the vocabulary. -/
theorem pay7_congr (i : grid0.Coords) {X : FVec Ideal S2048x768 .f32} {E E' : FVec Ideal S512x768 .f32} {a : FVec Ideal S2048x1 .f32}
    (h : ∀ (k : Fin 512) q, ((i 0).val * 50 + (i 1).val) * 512 + k.val < 50257 → E (ix2 k q) = E' (ix2 k q)) :
    k0_pay7 (F := Ideal) i X E a = k0_pay7 (F := Ideal) i X E' a := by
  refine col_ext fun r => ?_
  rw [pay7_apply, pay7_apply]
  congr 1
  refine Finset.sum_congr rfl fun k _ => ?_
  split
  · rename_i hk
    rw [Finset.sum_congr rfl fun q _ => by rw [h k q hk]]
  · rfl

end Cert.HeadIdeal.Vals

end
-- ==== Proof.HeadIdealFrame.lean ====
/- The lm-head program at the ideal values, every buffer named: the normalised rows and the running sum of exponentials
   carried between the grid's points, the logits' blocks, the row sums and the target products. -/
module

public import proofs.«01_k».proof.Proof.HeadIdealPoints
public import proofs.«01_k».proof.Proof.HeadIdealVals

@[expose] public section

set_option maxRecDepth 16384

noncomputable section

namespace Cert.HeadIdeal.Body

open Cert.HeadIdeal Cert.HeadIdeal.Gen Cert.HeadIdeal.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The points -/

/-- Point `t` is column block `t`. -/
theorem block_no : ∀ t : Fin cfg0.N, ((grid0.coords t) 0).val * 50 + ((grid0.coords t) 1).val = t.val :=
  (by decide +kernel : ∀ t : Fin grid0.N, ((grid0.coords t) 0).val * 50 + ((grid0.coords t) 1).val = t.val)

/-- How many columns of the vocabulary the block fetched at point `t` holds. -/
def live (t : Fin cfg0.N) : Nat := if t.val < 98 then 512 else 81

theorem xsize3_0 : ∀ t : Fin cfg0.N, win0_3.xsize (grid0.coords t) 0 = if t.val < 98 then 512 else 81 :=
  (by decide +kernel : ∀ t : Fin grid0.N, win0_3.xsize (grid0.coords t) 0 = if t.val < 98 then 512 else 81)
theorem xsize3_1 : ∀ t : Fin cfg0.N, win0_3.xsize (grid0.coords t) 1 = 768 :=
  (by decide +kernel : ∀ t : Fin grid0.N, win0_3.xsize (grid0.coords t) 1 = 768)
theorem xsize4_0 : ∀ t : Fin cfg0.N, win0_4.xsize (grid0.coords t) 0 = 2048 :=
  (by decide +kernel : ∀ t : Fin grid0.N, win0_4.xsize (grid0.coords t) 0 = 2048)
theorem xsize4_1 : ∀ t : Fin cfg0.N, win0_4.xsize (grid0.coords t) 1 = if t.val < 98 then 512 else 81 :=
  (by decide +kernel : ∀ t : Fin grid0.N, win0_4.xsize (grid0.coords t) 1 = if t.val < 98 then 512 else 81)

/-- The rows of the embedding's block inside the vocabulary are the fetched ones. -/
theorem moved3 (t : Fin cfg0.N) (k : Fin 512) (q : Fin 768) (h : k.val < live t) : win0_3.moved (grid0.coords t) (ix2 k q) = true := by
  rw [Window.moved_iff]
  intro a
  match a with
  | ⟨0, _⟩ => exact lt_of_lt_of_eq h (xsize3_0 t).symm
  | ⟨1, _⟩ => exact lt_of_lt_of_eq q.isLt (xsize3_1 t).symm

/-- There the buffer's contents before the fetch do not matter. -/
theorem fill3_congr (t : Fin cfg0.N) (d d' : S512x768.Idx → EReal) (g : (win0_3.xblock (grid0.coords t)).Idx → EReal) (k : Fin 512) (q : Fin 768)
    (h : k.val < live t) : win0_3.fill (grid0.coords t) d g (ix2 k q) = win0_3.fill (grid0.coords t) d' g (ix2 k q) := by
  unfold Window.fill; rw [dif_pos (moved3 t k q h), dif_pos (moved3 t k q h)]

/-! ## What is carried -/

/-- The hidden rows, the target rows, the norm's weights and the embedding's block at a point. -/
def xs0 (c : Dev nD) (t : Fin cfg0.N) : FVec Ideal S2048x768 .f32 := iblk m c 0 t
def et0 (c : Dev nD) (t : Fin cfg0.N) : FVec Ideal S2048x768 .f32 := iblk m c 1 t
def nw0 (c : Dev nD) (t : Fin cfg0.N) : FVec Ideal S1x768 .f32 := iblk m c 2 t
def eb0 (c : Dev nD) (t : Fin cfg0.N) : FVec Ideal S512x768 .f32 := win0_3.fill (grid0.coords t) (fun _ => (0 : EReal)) (iblk m c 3 t)

def p0 : Fin cfg0.N := ⟨0, by rw [show cfg0.N = 100 from N_0]; decide⟩

/-- The normalised rows. -/
def xfv (c : Dev nD) : FVec Ideal S2048x768 .f32 := k0_pay2 (xs0 m c p0) (nw0 m c p0)
/-- The target products. -/
def tdv (c : Dev nD) : FVec Ideal S2048x1 .f32 := k0_pay3 (xs0 m c p0) (nw0 m c p0) (et0 m c p0)

/-- The running sum after point `n`. -/
def accv (c : Dev nD) : ℕ → FVec Ideal S2048x1 .f32
  | 0 => accOut (F := Ideal) (grid0.coords p0) (xfv m c) (eb0 m c p0) (k0_pay4 (F := Ideal))
  | n + 1 => if h : n + 1 < cfg0.N then accOut (F := Ideal) (grid0.coords ⟨n + 1, h⟩) (xfv m c) (eb0 m c ⟨n + 1, h⟩) (accv c n) else accv c n

/-- A running sum does not depend on what a block holds past the vocabulary's end. -/
theorem accOut_congr (t : Fin cfg0.N) (X : FVec Ideal S2048x768 .f32) (E E' : FVec Ideal S512x768 .f32) (a : FVec Ideal S2048x1 .f32)
    (h : ∀ (k : Fin 512) q, k.val < live t → E (ix2 k q) = E' (ix2 k q)) :
    accOut (F := Ideal) (grid0.coords t) X E a = accOut (F := Ideal) (grid0.coords t) X E' a := by
  have hN : t.val < 100 := lt_of_lt_of_eq t.isLt (show cfg0.N = 100 from N_0)
  by_cases ht : t.val < 98
  · have hE : E = E' := by
      funext j
      have e : j = ix2 (j 0) (j 1) := by funext a; fin_cases a <;> rfl
      rw [e]; exact h _ _ (by unfold live; rw [if_pos ht]; exact (j 0).isLt)
    rw [hE]
  · unfold accOut accMid
    rw [if_neg (fun hh => ht ((isInner_iff t).mp hh)), if_pos ((isEdge_iff t).mpr (by omega)), if_neg (fun hh => ht ((isInner_iff t).mp hh)), if_pos ((isEdge_iff t).mpr (by omega))]
    refine pay7_congr _ fun k q hk => h k q ?_
    rw [block_no t] at hk
    unfold live; rw [if_neg ht]; omega

/-- At a half's first block the sum starts over. -/
theorem accOut_first (t : Fin cfg0.N) (X : FVec Ideal S2048x768 .f32) (E : FVec Ideal S512x768 .f32) (a a' : FVec Ideal S2048x1 .f32)
    (h : t.val % 50 = 0) : accOut (F := Ideal) (grid0.coords t) X E a = accOut (F := Ideal) (grid0.coords t) X E a' := by
  unfold accOut accMid accIn
  simp only [if_pos ((isFirst_iff t).mpr h)]

/-! ## The proof data -/

/-- The invariant before point `n`: the two scratch buffers at what the point before left. -/
def PhiS (c : Dev nD) : (n : ℕ) → sProp 𝕄
  | 0 => Pipeline.ΦA spec0 c
  | n + 1 => iprop(iprop(owns (c : Thread nD τ) scM0_0 fullShare (xfv m c) ∗ owns (c : Thread nD τ) scM0_1 fullShare (accv m c n)) ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => eb0 m c t
    | ⟨4, _⟩ => k0_pay5 (F := Ideal) (xfv m c) (eb0 m c t)
    | ⟨5, _⟩ => k0_pay8 (F := Ideal) (accv m c t.val)
    | ⟨6, _⟩ => tdv m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = eb0 m c t := by dsimp only [dats]
theorem after0_4 (c : Dev nD) (t : Fin cfg0.N) : (dats m 0 c).after 4 t = k0_pay5 (F := Ideal) (xfv m c) (eb0 m c t) := by dsimp only [dats]
theorem after0_5 (c : Dev nD) (t : Fin cfg0.N) : (dats m 0 c).after 5 t = k0_pay8 (F := Ideal) (accv m c t.val) := by dsimp only [dats]
theorem after0_6 (c : Dev nD) (t : Fin cfg0.N) : (dats m 0 c).after 6 t = tdv m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- The embedding's buffer holds its block on the rows inside the vocabulary. -/
theorem before0_3 (c : Dev nD) (t : Fin cfg0.N) (d) : (dats m 0 c).before 3 t d = win0_3.fill (grid0.coords t) d (iblk m c 3 t) := by
  rw [(dats m 0 c).before_in_eq_fetched 3 rfl (fun _ => rfl) (fun t t' h => by
      funext a
      show Pipeline.Clip.of (win0_3.index t a) _ _ = Pipeline.Clip.of (win0_3.index t' a) _ _
      rw [show win0_3.index t = win0_3.index t' from h])
    (fun t => by
      rw [after0_3]; unfold Dat.blockOf; rw [A_eq]; exact win0_3.cut_fill _ _ _) t d]
  unfold Dat.fetched Dat.blockOf; rw [A_eq]; rfl

/-- The whole-array windows hold the same block at every point. -/
theorem iblk0_const (c : Dev nD) (t : Fin cfg0.N) : iblk m c 0 t = xs0 m c p0 := rfl
theorem iblk1_const (c : Dev nD) (t : Fin cfg0.N) : iblk m c 1 t = et0 m c p0 := rfl
theorem iblk2_const (c : Dev nD) (t : Fin cfg0.N) : iblk m c 2 t = nw0 m c p0 := rfl

theorem idle5_iff (t : Fin cfg0.N) : cfg0.idle 5 (cfg0.grid.coords t) = true ↔ t.val % 50 ≠ 49 := by
  show (!(k0_cond4 (grid0.coords t) == 1#1)) = true ↔ _
  rw [Bool.not_eq_true', beq_eq_false_iff_ne]; exact not_congr (isLast_iff t)
theorem idle6_iff (t : Fin cfg0.N) : cfg0.idle 6 (cfg0.grid.coords t) = true ↔ t.val % 50 ≠ 0 := by
  show (!(k0_cond1 (grid0.coords t) == 1#1)) = true ↔ _
  rw [Bool.not_eq_true', beq_eq_false_iff_ne]; exact not_congr (isFirst_iff t)

/-- The target products stay in their buffer from the first point on. -/
theorem before0_6 (c : Dev nD) (t : Fin cfg0.N) (ht : t.val ≠ 0) (d) : (dats m 0 c).before 6 t d = tdv m c := by
  obtain ⟨n, hn⟩ := t
  induction n with
  | zero => exact absurd rfl ht
  | succ n ih =>
    rw [(dats m 0 c).before_of_pos 6 ⟨n + 1, hn⟩ ht rfl d]
    have hn' : n + 1 < 100 := lt_of_lt_of_eq hn (show cfg0.N = 100 from N_0)
    have hf : (cfg0.win 6).flush ⟨n, Nat.lt_of_succ_lt hn⟩ = false := by
      rw [← Bool.not_eq_true, flush0_6]; show ¬(n % 100 = 99); omega
    rw [if_neg (by rw [Bool.not_eq_true]; exact hf)]
    unfold Dat.left
    simp only [Nat.add_sub_cancel]
    split
    · rename_i hi
      have := (idle6_iff ⟨n, Nat.lt_of_succ_lt hn⟩).mp hi
      refine ih _ (fun h0 => this ?_)
      show n % 50 = 0
      rw [show n = 0 from h0]
    · unfold Dat.kept
      rw [after0_6]
      exact (Pipeline.fill_of_clip_none (cfg := cfg0) 6 _ (fun _ => rfl) d (tdv m c) _).trans (win0_6.fill_cut _ _)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t)

theorem leaves_0 (c : Dev nD) (t : Fin cfg0.N) : (dats m 0 c).leaves 0 t = owns (c : Thread nD τ) (ms0_0 t) fullShare ((dats m 0 c).after 0 t) := rfl
theorem leaves_1 (c : Dev nD) (t : Fin cfg0.N) : (dats m 0 c).leaves 1 t = owns (c : Thread nD τ) (ms0_1 t) fullShare ((dats m 0 c).after 1 t) := rfl
theorem leaves_2 (c : Dev nD) (t : Fin cfg0.N) : (dats m 0 c).leaves 2 t = owns (c : Thread nD τ) (ms0_2 t) fullShare ((dats m 0 c).after 2 t) := rfl
theorem leaves_3 (c : Dev nD) (t : Fin cfg0.N) : (dats m 0 c).leaves 3 t = iprop(∃ d, owns (c : Thread nD τ) (ms0_3 t) fullShare (win0_3.fill (grid0.coords t) d (win0_3.cut (grid0.coords t) ((dats m 0 c).after 3 t)))) := rfl
theorem leaves_4 (c : Dev nD) (t : Fin cfg0.N) : (dats m 0 c).leaves 4 t = iprop(∃ d, owns (c : Thread nD τ) (ms0_4 t) fullShare (win0_4.fill (grid0.coords t) d (win0_4.cut (grid0.coords t) ((dats m 0 c).after 4 t)))) := rfl
theorem leaves_5_last (c : Dev nD) (t : Fin cfg0.N) (h : t.val % 50 = 49) : (dats m 0 c).leaves 5 t = owns (c : Thread nD τ) (ms0_5 t) fullShare ((dats m 0 c).after 5 t) := by
  unfold Dat.leaves
  split
  · rename_i hi; exact absurd h ((idle5_iff t).mp hi)
  · rfl
theorem leaves_5 (c : Dev nD) (t : Fin cfg0.N) (h : t.val % 50 ≠ 49) : (dats m 0 c).leaves 5 t = iprop(∃ d, owns (c : Thread nD τ) (ms0_5 t) fullShare ((dats m 0 c).before 5 t d)) := by
  unfold Dat.leaves
  split
  · split
    · rfl
    · rename_i hf; exact absurd ((flush0_5 t).mp hf) h
  · rename_i hi; exact absurd ((idle5_iff t).mpr h) (by rw [show cfg0.idle 5 (cfg0.grid.coords t) = false from hi]; exact Bool.false_ne_true)
theorem leaves_6_first (c : Dev nD) (t : Fin cfg0.N) (h : t.val % 50 = 0) : (dats m 0 c).leaves 6 t = owns (c : Thread nD τ) (ms0_6 t) fullShare ((dats m 0 c).after 6 t) := by
  unfold Dat.leaves
  split
  · rename_i hi; exact absurd h ((idle6_iff t).mp hi)
  · rfl
/-- Once written the target products may be handed back as they are. -/
theorem leaves_6 (c : Dev nD) (t : Fin cfg0.N) (h : t.val ≠ 0) : owns (c : Thread nD τ) (ms0_6 t) fullShare (tdv m c) ⊢ ((dats m 0 c).leaves 6 t : sProp 𝕄) := by
  unfold Dat.leaves
  split
  · split
    · iintro H
      iexists (fun _ => (0 : EReal))
      rw [before0_6 m c t h]
      iexact H
    · rw [after0_6]
  · rw [after0_6]

/-- The logits' block on the columns inside the vocabulary. -/
theorem cut4 (c : Dev nD) (t : Fin cfg0.N) (d : S512x768.Idx → EReal) (X : FVec Ideal S2048x768 .f32) :
    win0_4.cut (grid0.coords t) (k0_pay5 (F := Ideal) X (win0_3.fill (grid0.coords t) d (iblk m c 3 t)))
      = win0_4.cut (grid0.coords t) (k0_pay5 (F := Ideal) X (eb0 m c t)) := by
  funext j
  have e : win0_4.xinj (grid0.coords t) j = ix2 (win0_4.xinj (grid0.coords t) j 0) (win0_4.xinj (grid0.coords t) j 1) := by
    funext a; match a with
    | ⟨0, _⟩ => rfl
    | ⟨1, _⟩ => rfl
  show k0_pay5 (F := Ideal) X _ (win0_4.xinj (grid0.coords t) j) = k0_pay5 (F := Ideal) X _ (win0_4.xinj (grid0.coords t) j)
  rw [e]
  refine pay5_congr (fun q => fill3_congr t _ _ _ _ q ?_) _
  exact lt_of_lt_of_eq (j 1).isLt (xsize4_1 t)

theorem accv_succ (c : Dev nD) (n : ℕ) (h : n + 1 < cfg0.N) :
    accv m c (n + 1) = accOut (F := Ideal) (grid0.coords ⟨n + 1, h⟩) (xfv m c) (eb0 m c ⟨n + 1, h⟩) (accv m c n) := by
  rw [accv, dif_pos h]

theorem xfOut_eq (c : Dev nD) (t : Fin cfg0.N) (xs : FVec Ideal S2048x768 .f32) (h : t.val % 50 = 0 ∨ xs = xfv m c) :
    xfOut (F := Ideal) (grid0.coords t) (xs0 m c p0) (nw0 m c p0) xs = xfv m c := by
  unfold xfOut
  split
  · rfl
  · rcases h with h | h
    · rename_i hf; exact absurd ((isFirst_iff t).mpr h) hf
    · exact h

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  have hN : t.val < 100 := lt_of_lt_of_eq t.isLt (show cfg0.N = 100 from N_0)
  have key : ∀ (xs : FVec Ideal S2048x768 .f32) (a : FVec Ideal S2048x1 .f32)
      (hxs : t.val % 50 = 0 ∨ xs = xfv m c) (ha : accOut (F := Ideal) (grid0.coords t) (xfv m c) (eb0 m c t) a = accv m c t.val),
      iprop((owns (c : Thread nD τ) scM0_0 fullShare xs ∗ owns (c : Thread nD τ) scM0_1 fullShare a) ∗ (∃ r, prngReg c r) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
      ⊢ wp frame (wpE (defs₀ (F := Ideal)) Variants.none c none) Set.univ (bodyAt0 t) (fun _ => bodyPost m c t) := by
    intro xs a hxs ha
    unfold bodyPost bodyAt0
    simp only [before0_0, before0_1, before0_2, before0_3]
    rw [show (dats m 0 c).owesAt () t.succ = (dats m 0 c).owesAt () t.castSucc from rfl,
      show (dats m 0 c).Φ t.succ = PhiS m c (t.val + 1) from rfl, PhiS, leaves_0, leaves_1, leaves_2, leaves_3, leaves_4, after0_0, after0_1, after0_2, after0_3, after0_4]
    iintro ⟨⟨HS0, HS1⟩, Hg, Ho, ⟨%d0, H0⟩, ⟨%d1, H1⟩, ⟨%d2, H2⟩, ⟨%d3, H3⟩, ⟨%d4, H4⟩, ⟨%d5, H5⟩, ⟨%d6, H6⟩⟩
    iapply (body (F := Ideal) c (grid0.coords t) _ (hs0_0 t) _ (hs0_1 t) _ (hs0_2 t) _ (hs0_3 t) _ (hs0_4 t) _ (hs0_5 t) _ (hs0_6 t) _ _ _ _ (xs0 m c p0) (et0 m c p0) (nw0 m c p0) (win0_3.fill (grid0.coords t) d3 (iblk m c 3 t)) _ _ _ xs a (edge_iff_not_inner t) Set.univ _)
    rw [xfOut_eq m c t xs hxs,
      accOut_congr t (xfv m c) (win0_3.fill (grid0.coords t) d3 (iblk m c 3 t)) (eb0 m c t) a (fun k q hk => fill3_congr t _ _ _ k q hk), ha]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]
    · iexists d3
      rw [show win0_3.cut (grid0.coords t) (eb0 m c t) = iblk m c 3 t from win0_3.cut_fill _ _ _]
      iexact H3
    isplitl [H4]
    · iexists (k0_pay5 (F := Ideal) (xfv m c) (win0_3.fill (grid0.coords t) d3 (iblk m c 3 t)))
      rw [win0_4.fill_congr_cut (grid0.coords t) (cut4 m c t d3 (xfv m c))]
      iexact H4
    isplitl [H5]
    · unfold sOut
      by_cases hl : t.val % 50 = 49
      · rw [leaves_5_last m c t hl, after0_5, if_pos ((isLast_iff t).mpr hl)]; iexact H5
      · rw [leaves_5 m c t hl, if_neg (fun hh => hl ((isLast_iff t).mp hh))]; iexists d5; iexact H5
    · unfold tOut
      by_cases hf : t.val % 50 = 0
      · rw [leaves_6_first m c t hf, after0_6, if_pos ((isFirst_iff t).mpr hf)]; iexact H6
      · have h0 : t.val ≠ 0 := fun h => hf (by rw [h])
        rw [if_neg (fun hh => hf ((isFirst_iff t).mp hh)), before0_6 m c t h0]
        iapply (leaves_6 m c t h0); iexact H6
  unfold bodyPre
  rw [show (dats m 0 c).Φ t.castSucc = PhiS m c t.val from rfl]
  by_cases hz : t.val = 0
  · rw [hz, PhiS, PhiA_eq]
    iintro ⟨⟨⟨⟨%xs, HS0⟩, ⟨%a, HS1⟩⟩, Hg⟩, Hr⟩
    iapply (key xs a (.inl (by rw [hz])) (by
      have e : t = p0 := Fin.ext hz
      rw [hz, e, accOut_first p0 _ _ a (k0_pay4 (F := Ideal)) rfl]; rfl))
    isplitl [HS0 HS1]
    · isplitl [HS0]; · iexact HS0
      iexact HS1
    isplitl [Hg]; · iexact Hg
    iexact Hr
  · obtain ⟨n, hn⟩ : ∃ n, t.val = n + 1 := ⟨t.val - 1, by omega⟩
    rw [hn, PhiS]
    iintro ⟨⟨⟨HS0, HS1⟩, Hg⟩, Hr⟩
    iapply (key (xfv m c) (accv m c n) (.inr rfl) (by
      have h' : n + 1 < cfg0.N := hn ▸ t.isLt
      have e : t = ⟨n + 1, h'⟩ := Fin.ext hn
      rw [hn, e, accv_succ m c n h']))
    isplitl [HS0 HS1]
    · isplitl [HS0]; · iexact HS0
      iexact HS1
    isplitl [Hg]; · iexact Hg
    iexact Hr

theorem body_obligation (c : Dev nD) : BodyObligationLoose (dats m 0 c) (defs₀ (F := Ideal)) Variants.none () Set.univ := fun t => by
  rw [bigSep_W0, bigSep_W0, defs₀_row]
  exact sound_body m c t

theorem hin (c : Dev nD) : Pipeline.ΦA spec0 c ⊢ (dats m 0 c).Φ 0 := by
  rw [show (dats m 0 c).Φ 0 = PhiS m c 0 from rfl, PhiS]

theorem hout (c : Dev nD) : (dats m 0 c).Φ (Fin.last cfg0.N) ⊢ Pipeline.ΦA spec0 c := by
  rw [show (dats m 0 c).Φ (Fin.last cfg0.N) = PhiS m c (99 + 1) from (rfl : _ = PhiS m c cfg0.N).trans (congrArg (PhiS m c) N_0), PhiS, PhiA_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The run: every array of the call at what the library computes of it, every other buffer as the lines after the call
    leave it, every semaphore at zero. -/
theorem run_main : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.HeadIdeal.Body

end
-- ==== Proof.HeadIdealValue.lean ====
/- What the lm-head program computes over the extended reals: the logits, the summed exponentials' halves and the target
   products as whole arrays, and the loss the last host lines make of them. -/
module

public import proofs.«01_k».proof.Proof.HeadIdealFrame

@[expose] public section

set_option maxRecDepth 16384

noncomputable section

namespace Cert.HeadIdeal.Body

open Cert.HeadIdeal Cert.HeadIdeal.Gen Cert.HeadIdeal.Vals
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-! ## Sums over the vocabulary -/

/-- Blocks of 512 summed block by block. -/
theorem sum_blocks (g : ℕ → EReal) (N : ℕ) :
    ∑ j ∈ Finset.range N, ∑ k : Fin 512, g (j * 512 + k.val) = ∑ n ∈ Finset.range (N * 512), g n := by
  induction N with
  | zero => simp
  | succ N ih => rw [Finset.sum_range_succ, ih, Nat.succ_mul, Finset.sum_range_add, ← Finset.sum_range (fun k => g (N * 512 + k))]

/-- A function on the vocabulary, zero past its end. -/
def ext (f : Fin 50257 → EReal) (n : ℕ) : EReal := if h : n < 50257 then f ⟨n, h⟩ else 0

theorem sum_ext (f : Fin 50257 → EReal) : ∑ n ∈ Finset.range (100 * 512), ext f n = ∑ v : Fin 50257, f v := by
  rw [show 100 * 512 = 50257 + 943 from rfl, Finset.sum_range_add, Finset.sum_range,
    Finset.sum_eq_zero (s := Finset.range 943) (fun x _ => by unfold ext; rw [dif_neg (by omega)]), add_zero]
  exact Finset.sum_congr rfl fun v _ => by unfold ext; rw [dif_pos v.isLt]

/-! ## The arrays at coordinates -/

abbrev aX (c : Dev nD) : S2048x768.Idx → EReal := m ((c : Thread nD τ).loc main_arg1)
abbrev aT (c : Dev nD) : S2048x768.Idx → EReal := m ((c : Thread nD τ).loc main_arg2)
abbrev aW (c : Dev nD) : S768.Idx → EReal := m ((c : Thread nD τ).loc main_arg3)
abbrev aE (c : Dev nD) : S50257x768.Idx → EReal := m ((c : Thread nD τ).loc main_arg4)

/-- The normalised row's entry. -/
def xn (c : Dev nD) (r : Fin 2048) (q : Fin 768) : EReal :=
  aX m c (ix2 r q) * Ideal.rsqrt (Ideal.div (∑ q : Fin 768, aX m c (ix2 r q) * aX m c (ix2 r q)) (Ideal.ofBits .f32 0x44400000#32) + Ideal.ofBits .f32 0x3727C5AC#32) * aW m c (ix1 q)

/-- A logit. -/
def lg (c : Dev nD) (r : Fin 2048) (v : Fin 50257) : EReal := ∑ q : Fin 768, xn m c r q * aE m c (ix2 v q)

theorem xs0_apply (c : Dev nD) (r : Fin 2048) (q : Fin 768) : xs0 m c p0 (ix2 r q) = aX m c (ix2 r q) := by
  unfold xs0
  blk_simp [iblk]
  rw [V_main_arg1]
  congr 1
  blk_ext [(by decide +kernel : ∀ t : Fin grid0.N, win0_0.index t = ![0, 0])]

theorem et0_apply (c : Dev nD) (r : Fin 2048) (q : Fin 768) : et0 m c p0 (ix2 r q) = aT m c (ix2 r q) := by
  unfold et0
  blk_simp [iblk]
  rw [V_main_arg2]
  congr 1
  blk_ext [(by decide +kernel : ∀ t : Fin grid0.N, win0_1.index t = ![0, 0])]

theorem V_main_v0 (c : Dev nD) (q : Fin 768) : (V m c main_v0 : S1x768.Idx → EReal) (ix2 0 q) = aW m c (ix1 q) := by
  show (StableHlo.after (τ := τ) hostOps0 (fun b => m (c, b)) (Proc.devRef .tc main_v0) : S1x768.Idx → EReal) (ix2 0 q) = _
  after_results_simp
  pointwise

theorem nw0_apply (c : Dev nD) (q : Fin 768) : nw0 m c p0 (ix2 0 q) = aW m c (ix1 q) := by
  rw [← V_main_v0]
  unfold nw0
  blk_simp [iblk]
  congr 1
  blk_ext [(by decide +kernel : ∀ t : Fin grid0.N, win0_2.index t = ![0, 0])]

theorem eb0_apply (c : Dev nD) (t : Fin cfg0.N) (k : Fin 512) (q : Fin 768) (hk : k.val < live t) (h : min t.val 98 * 512 + k.val < 50257) :
    eb0 m c t (ix2 k q) = aE m c (ix2 ⟨min t.val 98 * 512 + k.val, h⟩ q) := by
  unfold eb0 Window.fill
  rw [dif_pos (moved3 t k q hk)]
  blk_simp [iblk]
  rw [V_main_arg4]
  congr 1
  blk_ext [(by decide +kernel : ∀ t : Fin grid0.N, win0_3.index t = ![min t.val 98, 0])]

theorem xfv_apply (c : Dev nD) (r : Fin 2048) (q : Fin 768) : xfv m c (ix2 r q) = xn m c r q := by
  unfold xfv xn
  rw [pay2_apply, nw0_apply]
  simp only [xs0_apply]

theorem tdv_apply (c : Dev nD) (r : Fin 2048) : tdv m c (ix2 r 0) = ∑ q : Fin 768, xn m c r q * aT m c (ix2 r q) := by
  unfold tdv
  rw [pay3_apply]
  refine Finset.sum_congr rfl fun q _ => ?_
  rw [et0_apply, ← xfv_apply]; rfl

/-! ## The running sums -/

/-- What point `n`'s block adds to row `r`'s sum. -/
def part (c : Dev nD) (r : Fin 2048) (n : ℕ) : EReal := ∑ k : Fin 512, ext (fun v => Ideal.exp (lg m c r v)) (n * 512 + k.val)

theorem accOut_apply (c : Dev nD) (t : Fin cfg0.N) (a : FVec Ideal S2048x1 .f32) (r : Fin 2048) :
    accOut (F := Ideal) (grid0.coords t) (xfv m c) (eb0 m c t) a (ix2 r 0) = (if t.val % 50 = 0 then 0 else a (ix2 r 0)) + part m c r t.val := by
  have hN : t.val < 100 := lt_of_lt_of_eq t.isLt (show cfg0.N = 100 from N_0)
  have hin : accIn (F := Ideal) (grid0.coords t) a (ix2 r 0) = if t.val % 50 = 0 then 0 else a (ix2 r 0) := by
    unfold accIn
    by_cases h : t.val % 50 = 0
    · rw [if_pos ((isFirst_iff t).mpr h), if_pos h]; exact pay4_apply r
    · rw [if_neg (fun hh => h ((isFirst_iff t).mp hh)), if_neg h]
  have hrow : ∀ (k : Fin 512) (hk : t.val * 512 + k.val < 50257), (∑ q : Fin 768, xfv m c (ix2 r q) * eb0 m c t (ix2 k q)) = lg m c r ⟨t.val * 512 + k.val, hk⟩ := by
    intro k hk
    refine Finset.sum_congr rfl fun q _ => ?_
    have hm : min t.val 98 = t.val := by omega
    rw [xfv_apply, eb0_apply m c t k q (by unfold live; split <;> omega) (by omega)]
    simp only [hm]
  rw [← hin]
  unfold accOut accMid
  by_cases ht : t.val < 98
  · rw [if_neg (fun hh => absurd ((isEdge_iff t).mp hh) (by omega)), if_pos ((isInner_iff t).mpr ht), pay6_apply]
    congr 1
    refine Finset.sum_congr rfl fun k _ => ?_
    unfold ext
    rw [dif_pos (by omega), hrow k (by omega)]
  · rw [if_pos ((isEdge_iff t).mpr (by omega)), if_neg (fun hh => ht ((isInner_iff t).mp hh)), pay7_apply]
    congr 1
    refine Finset.sum_congr rfl fun k _ => ?_
    rw [block_no t]
    unfold ext
    by_cases h : t.val * 512 + k.val < 50257
    · rw [if_pos h, dif_pos h, hrow k h]
    · rw [if_neg h, dif_neg h]

theorem accv_apply (c : Dev nD) (r : Fin 2048) (n : ℕ) (h : n < 100) :
    accv m c n (ix2 r 0) = ∑ j ∈ Finset.Ico (n / 50 * 50) (n + 1), part m c r j := by
  induction n with
  | zero =>
    rw [accv, accOut_apply, if_pos (show p0.val % 50 = 0 from rfl), zero_add]
    simp [p0]
  | succ n ih =>
    have hN : n + 1 < cfg0.N := by rw [show cfg0.N = 100 from N_0]; exact h
    rw [accv_succ m c n hN, accOut_apply, ih (by omega)]
    show (if (n + 1) % 50 = 0 then 0 else _) + part m c r (n + 1) = _
    split
    · rw [show (n + 1) / 50 * 50 = n + 1 by omega, Finset.sum_Ico_succ_top (le_refl _), Finset.Ico_self, Finset.sum_empty]
    · rw [show (n + 1) / 50 * 50 = n / 50 * 50 by omega, Finset.sum_Ico_succ_top (b := n + 1) (by omega)]

/-- The two halves together are the whole row's sum. -/
theorem halves (c : Dev nD) (r : Fin 2048) :
    accv m c 49 (ix2 r 0) + accv m c 99 (ix2 r 0) = ∑ v : Fin 50257, Ideal.exp (lg m c r v) := by
  rw [accv_apply m c r 49 (by omega), accv_apply m c r 99 (by omega)]
  show (∑ j ∈ Finset.Ico 0 50, _) + (∑ j ∈ Finset.Ico 50 100, _) = _
  rw [Finset.sum_Ico_consecutive _ (by omega) (by omega), Nat.Ico_zero_eq_range, ← sum_ext, ← sum_blocks]
  rfl

/-! ## The arrays after the call -/

def logits (c : Dev nD) : S2048x50257.Idx → EReal := fun i => lg m c (i 0) (i 1)
def sums (c : Dev nD) : S2048x256.Idx → EReal := fun i => accv m c (if (i 1).val < 128 then 49 else 99) (ix2 (i 0) 0)

theorem idx4 : ∀ t : Fin grid0.N, win0_4.index t = ![0, min t.val 98] := by decide +kernel

theorem pay5_at (c : Dev nD) (t : Fin cfg0.N) (j : S2048x512.Idx) (i : S2048x50257.Idx) (hk : (j 1).val < live t)
    (h0 : (i 0).val = (j 0).val) (h1 : (i 1).val = min t.val 98 * 512 + (j 1).val) :
    k0_pay5 (F := Ideal) (xfv m c) (eb0 m c t) j = logits m c i := by
  obtain ⟨r, k, rfl⟩ : ∃ (r : Fin 2048) (k : Fin 512), j = ix2 r k := ⟨j 0, j 1, by
    funext a; match a with
    | ⟨0, _⟩ => rfl
    | ⟨1, _⟩ => rfl⟩
  replace hk : k.val < live t := hk
  replace h0 : (i 0).val = r.val := h0
  replace h1 : (i 1).val = min t.val 98 * 512 + k.val := h1
  have hv : min t.val 98 * 512 + k.val < 50257 := by unfold live at hk; split at hk <;> omega
  have e0 : i 0 = r := Fin.ext h0
  have e1 : i 1 = ⟨min t.val 98 * 512 + k.val, hv⟩ := Fin.ext h1
  rw [pay5_apply]
  unfold logits
  rw [e0, e1]
  exact Finset.sum_congr rfl fun q _ => by rw [xfv_apply, eb0_apply m c t k q hk hv]; rfl

theorem emb4_0 (t : Fin cfg0.N) (y) : (((win0_4.blk t).view.emb y) 0).val = (y 0).val := by
  blk_simp [idx4 t]
theorem emb4_1 (t : Fin cfg0.N) (y) : (((win0_4.blk t).view.emb y) 1).val = min t.val 98 * 512 + (y 1).val := by
  blk_simp [idx4 t]

theorem final4 (c : Dev nD) : (dats m 0 c).arrAt 4 cfg0.N = logits m c := by
  refine (dats m 0 c).arrAt_eq_of_covers 4 _ (by decide +kernel) fun t hf y => ?_
  rw [after0_4]
  exact pay5_at m c t (win0_4.xinj (grid0.coords t) y) ((win0_4.blk t).view.emb y) (lt_of_lt_of_eq (y 1).isLt (xsize4_1 t)) (emb4_0 t y) (emb4_1 t y)

theorem pay8_at (a : FVec Ideal S2048x1 .f32) (j : S2048x128.Idx) : k0_pay8 (F := Ideal) a j = a (ix2 (j 0) 0) := by
  have e : j = ix2 (j 0) (j 1) := by
    funext a; match a with
    | ⟨0, _⟩ => rfl
    | ⟨1, _⟩ => rfl
  rw [e]; exact pay8_apply a _ _

theorem idx5 : ∀ t : Fin grid0.N, win0_5.index t = ![0, t.val / 50] := by decide +kernel

theorem final5 (c : Dev nD) : (dats m 0 c).arrAt 5 cfg0.N = sums m c := by
  refine (dats m 0 c).arrAt_eq_of_covers 5 _ (by decide +kernel) fun t hf y => ?_
  rw [after0_5]
  blk_simp
  refine (pay8_at (accv m c t.val) y).trans ?_
  have ht := (flush0_5 t).mp hf
  have hN : t.val < 100 := lt_of_lt_of_eq t.isLt (show cfg0.N = 100 from N_0)
  unfold sums
  have h1 : (((win0_5.blk t).view.emb y) 1).val = t.val / 50 * 128 + (y 1).val := by
    blk_simp [idx5 t]
  have hy : (y 1).val < 128 := (y 1).isLt
  have e : t.val = if (((win0_5.blk t).view.emb y) 1).val < 128 then 49 else 99 := by
    rw [h1]; split <;> omega
  rw [← e]
  congr 1
  blk_ext [idx5 t]

theorem final6 (c : Dev nD) : (dats m 0 c).arrAt 6 cfg0.N = tdv m c := by
  refine (dats m 0 c).arrAt_eq_of_covers 6 _ (by decide +kernel) fun t hf y => ?_
  rw [after0_6]
  blk_simp
  congr 1
  blk_ext [(by decide +kernel : ∀ t : Fin grid0.N, win0_6.index t = ![0, 0])]

/-! ## The loss -/

/-- The last host lines' loss, of the halves' sums, the target products and the targets. -/
def lossTerm (s : FVec Ideal S2048x256 .f32) (d : FVec Ideal S2048x1 .f32) (g : S1x2048.Idx → BitVec 32) : FVec Ideal S_ .f32 :=
  let v11 : FVec Ideal S2048 .f32 := uitofp (F := Ideal) .f32 (cmpi .sge (shapeCast S2048 g shapeCasts_S1x2048_S2048) (broadcastInDim S2048 ![] bcast_S_S2048 (constantI S_ 32 0#32)))
  let v7 : FVec Ideal S2048 .f32 := Host.log (addf (shapeCast S2048 (extractStridedSlice S2048x1 ![0, 0] s slices_S2048x256_S2048x1_0_0) shapeCasts_S2048x1_S2048)
    (shapeCast S2048 (extractStridedSlice S2048x1 ![0, 128] s slices_S2048x256_S2048x1_0_128) shapeCasts_S2048x1_S2048))
  Host.divf (Host.reduceAdd (mulf (subf v7 (shapeCast S2048 d shapeCasts_S2048x1_S2048)) v11) (constant S_ .f32 0x00000000#32) reducesTo_S2048_S_d0 h_S_)
    (maximumf (Host.reduceAdd v11 (constant S_ .f32 0x00000000#32) reducesTo_S2048_S_d0 h_S_) (constant S_ .f32 0x3F800000#32))

theorem tail (c : Dev nD) : Pipeline.afterTail₀ cfgs (dats m) 0 (V0 m) [hostOps1] c main_v18 = lossTerm (sums m c) (tdv m c) (m ((c : Thread nD τ).loc main_arg0)) := by
  unfold Pipeline.afterTail₀
  rw [List.flatten_cons, List.flatten_nil, List.append_nil]
  generalize hW : (Pipeline.withArrays (cfgs 0).spec c (V0 m c) fun w => (dats m 0 c).arrAt w (cfgs 0).N) = W
  have h5 : W (Proc.devRef .tc main_v1_1) = sums m c := by
    rw [← hW]; exact (Pipeline.withArrays_arr spec0 launch0.win.arr_inj c (V0 m c) (fun w => (dats m 0 c).arrAt w cfg0.N) 5).trans (final5 m c)
  have h6 : W (Proc.devRef .tc main_v1_2) = tdv m c := by
    rw [← hW]; exact (Pipeline.withArrays_arr spec0 launch0.win.arr_inj c (V0 m c) (fun w => (dats m 0 c).arrAt w cfg0.N) 6).trans (final6 m c)
  have h0 : W (Proc.devRef .tc main_arg0) = m ((c : Thread nD τ).loc main_arg0) := by
    rw [← hW]; exact (Pipeline.withArrays_of_ne spec0 c (V0 m c) (fun w => (dats m 0 c).arrAt w cfg0.N) main_arg0 (by exact (by decide : ∀ w, Pipeline.arrRef spec0 w ≠ main_arg0))).trans (V_main_arg0 m c)
  after_results_simp
  rw [h5, h6, h0]
  rfl

/-- A target's weight: one where the target counts, zero where it is masked. -/
def wt (g : S1x2048.Idx → BitVec 32) (r : Fin 2048) : EReal := FloatOps.uitofp (F := Ideal) FTy.f32 (IntOp.cmpi CmpIPredicate.sge (g (ix2 0 r)) 0#32)

/-- The loss: the weighted mean of each row's logarithm of its summed exponentials less its target's product. -/
def loss (c : Dev nD) : FVec Ideal S_ .f32 := fun _ =>
  Ideal.div (∑ r : Fin 2048, (Ideal.log (∑ v : Fin 50257, Ideal.exp (lg m c r v)) - ∑ q : Fin 768, xn m c r q * aT m c (ix2 r q)) * wt (m ((c : Thread nD τ).loc main_arg0)) r)
    (max (∑ r : Fin 2048, wt (m ((c : Thread nD τ).loc main_arg0)) r) 1)

theorem sums_lo (c : Dev nD) (r : Fin 2048) (q : Fin 256) (h : q.val < 128) : sums m c (ix2 r q) = accv m c 49 (ix2 r 0) := by
  show accv m c (if q.val < 128 then 49 else 99) (ix2 r 0) = _
  rw [if_pos h]
theorem sums_hi (c : Dev nD) (r : Fin 2048) (q : Fin 256) (h : ¬ q.val < 128) : sums m c (ix2 r q) = accv m c 99 (ix2 r 0) := by
  show accv m c (if q.val < 128 then 49 else 99) (ix2 r 0) = _
  rw [if_neg h]

theorem lossTerm_eq (c : Dev nD) : lossTerm (sums m c) (tdv m c) (m ((c : Thread nD τ).loc main_arg0)) = loss m c := by
  funext i
  unfold lossTerm
  pointwise
  have e : ∀ r : Fin 2048, Ideal.log (sums m c (ix2 r 0) + sums m c (ix2 r 128)) - tdv m c (ix2 r 0)
      = Ideal.log (∑ v : Fin 50257, Ideal.exp (lg m c r v)) - ∑ q : Fin 768, xn m c r q * aT m c (ix2 r q) := by
    intro r
    have e0 := sums_lo m c r 0 (by decide)
    have e1 := sums_hi m c r 128 (by decide)
    rw [e0, e1, halves, tdv_apply]
  unfold loss wt
  simp only [e]

/-- The run: the logits and the loss, the arguments unchanged. -/
theorem run : θ_run defs (onTc (τ := τ) (main (F := Ideal))) ⟨m, fun _ => 0, ρ⟩ (fun r => ∀ c : Dev nD,
      r.2.mem ((c.tc : Thread nD τ).loc main_v1_0) = logits m c
      ∧ r.2.mem ((c.tc : Thread nD τ).loc main_v18) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m ρ) (frame m ρ)) (fun _ h c => ⟨((h.1.1 c).1 4).trans (final4 m c),
    ((h.1.1 c).2 main_v18 (Pipeline.mem_restRefs_of main_v18 (by decide) (by decide))).trans ((tail m c).trans (lossTerm_eq m c)), h.2.1 c⟩)

end Cert.HeadIdeal.Body

end
-- ==== Proof.HeadAlgebraic.lean ====
/- The lm-head program and its reference agree over the extended reals. -/
module

public import proofs.«01_k».proof.Defs
public import proofs.«01_k».proof.Proof.HeadIdealValue
public import proofs.«01_k».proof.Proof.Gen.HeadRefIdeal.Run

@[expose] public section

set_option maxRecDepth 16384

noncomputable section

namespace Cert.HeadIdeal.Body

open Idealize.ShloMosaic Idealize.ShloMosaic.TcCoe Idealize.SL.Sem

theorem ref_frame : Cert.quiescent_HeadRefIdeal := by
  intro m g _
  exact θ_run_mono (Cert.HeadRefIdeal.Value.run m g) (fun r h => ⟨fun c => (h c).2.2, sem_eq_zero_of_no_sems (by decide) _⟩)

set_option maxHeartbeats 800000 in
theorem algebraic : Cert.algebraic_HeadIdeal_HeadRefIdeal := by
  intro m g m' g' _ hagree
  refine ⟨fun c => logits m c, fun c => loss m c, run m g, ?_⟩
  refine θ_run_mono (Cert.HeadRefIdeal.Value.run m' g') fun r h c => ?_
  obtain ⟨h14, h29, hrest⟩ := h c
  refine ⟨?_, ?_, hrest⟩
  · rw [h14]
    clear h14 h29 hrest h
    simp only [(hagree c).2.1, (hagree c).2.2.2.1, (hagree c).2.2.2.2]
    refine funext fun i => ?_
    obtain ⟨a, b, rfl⟩ : ∃ (a : Fin 2048) (b : Fin 50257), i = ix2 a b := ⟨i 0, i 1, by
      funext a; match a with
      | ⟨0, _⟩ => rfl
      | ⟨1, _⟩ => rfl⟩
    show _ = lg m c a b
    pointwise
    simp only [lg, xn, aX, aW, aE]
  · rw [h29]
    clear h14 h29 hrest h
    simp only [(hagree c).1, (hagree c).2.1, (hagree c).2.2.1, (hagree c).2.2.2.1, (hagree c).2.2.2.2]
    refine funext fun i => ?_
    show _ = loss m c i
    unfold loss
    pointwise
    simp only [lg, xn, aX, aT, aW, aE, wt]

end Cert.HeadIdeal.Body

end
-- ==== Proof.LayerBody.lean ====
/- The layer kernel's body at one grid point leaves its input blocks as they were, at any float values. -/
module

public import proofs.«01_k».proof.Proof.Gen.Layer.Frame
public import proofs.«01_k».proof.Proof.Gen.Layer.Skeleton
public import proofs.«01_k».proof.Proof.Gen.Layer.Loops
public import Idealize.ShloMosaic.Lib.Pipeline.ValueKit

@[expose] public section

set_option maxRecDepth 16384

noncomputable section

namespace Cert.Layer.Body

open Cert.Layer Cert.Layer.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The first chunk of rows. -/
abbrev isFirst (i : grid0.Coords) : Prop := (Scalar.cmpi .ne (Scalar.extui (Scalar.cmpi .eq (BitVec.ofNat 32 (i 0).val) 0#32)) 0#32) = 1#1
instance (i : grid0.Coords) : Decidable (isFirst i) := inferInstanceAs (Decidable (_ = _))

set_option maxHeartbeats 4000000 in
/-- THE BODY at a point. -/
theorem body (c : Dev nD) (i : grid0.Coords) (arg1 : Memref sig .tc .vmem S256x768 .f32) (harg1 : arg1.IsWhole) (arg2 : Memref sig .tc .vmem S3072x768 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S128x1536 .f32) (harg5 : arg5.IsWhole) (arg6 : Memref sig .tc .vmem S1536x128 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S1x1536 .f32) (harg9 : arg9.IsWhole) (arg10 : Memref sig .tc .vmem S768x1536 .f32) (harg10 : arg10.IsWhole) (arg11 : Memref sig .tc .vmem S1x768 .f32) (harg11 : arg11.IsWhole) (arg12 : Memref sig .tc .vmem S256x768 .f32) (harg12 : arg12.IsWhole) (arg13 : Memref sig .tc .vmem S16x1536 .f32) (harg13 : arg13.IsWhole) (arg14 : Memref sig .tc .vmem S8x1536 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1536 .f32) (harg17 : arg17.IsWhole) (arg18 : Memref sig .tc .vmem S256x16 .f32) (harg18 : arg18.IsWhole) (arg19 : Memref sig .tc .vmem S256x16 .f32) (harg19 : arg19.IsWhole) (arg20 : Memref sig .tc .vmem S256x1536 .f32) (harg20 : arg20.IsWhole)
    (x0 : Vec F S256x768 .f32) (x1 : Vec F S3072x768 .f32) (x2 : Vec F S4x1536 .f32) (x3 : Vec F S1x1536 .f32) (x4 : Vec F S128x1536 .f32) (x5 : Vec F S1536x128 .f32) (x6 : Vec F S1x1536 .f32) (x7 : Vec F S16x1536 .f32) (x8 : Vec F S1x1536 .f32) (x9 : Vec F S768x1536 .f32) (x10 : Vec F S1x768 .f32) (x11 : Vec F S256x768 .f32) (x12 : Vec F S16x1536 .f32) (x13 : Vec F S8x1536 .f32) (x14 : Vec F S264x1536 .f32) (x15 : Vec F S256x1536 .f32) (x16 : Vec F S256x1536 .f32) (x17 : Vec F S256x16 .f32) (x18 : Vec F S256x16 .f32) (x19 : Vec F S256x1536 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (cc0_mamba_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_mamba_layer_eq_skeleton]; unfold cc0_mamba_layer_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg14.eq_unread hf13
  by_cases hc0 : isFirst i
  all_goals
    sl_exec (disch := sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    iexists _; iexists _; isplitr; swap; · iexact H19
    ipureintro; rfl

end Cert.Layer.Body

end
-- ==== Proof.LayerFrame.lean ====
/- The layer program terminates and leaves its arguments alone, at any float values: the outputs' contents are not
   named here. -/
module

public import proofs.«01_k».proof.Proof.LayerPoints

@[expose] public section

set_option maxRecDepth 16384

noncomputable section

namespace Cert.Layer.Body

open Cert.Layer Cert.Layer.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window's contents are named. -/
def forgets0 : Fin 12 → Bool := fun _ => true

/-- The proof data: the arrays as the call finds them, nothing named of what the body leaves. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))
/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq]
  iintro ⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ _ _ _ _ _ _ _ _ _ _ _ _ _ _ _  d0 d1 d2 d3 d4 d5 d6 d7 d8 d9 d10 d11 e0 e1 e2 e3 e4 e5 e6 e7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, ⟨%d11, H11⟩, ⟨%e0, HS0⟩, ⟨%e1, HS1⟩, ⟨%e2, HS2⟩, ⟨%e3, HS3⟩, ⟨%e4, HS4⟩, ⟨%e5, HS5⟩, ⟨%e6, HS6⟩, ⟨%e7, HS7⟩⟩
  isplitl [HS0 HS1 HS2 HS3 HS4 HS5 HS6 HS7 Hg]
  · isplitl [HS0 HS1 HS2 HS3 HS4 HS5 HS6 HS7]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      iexists _; iexact HS7
    iexact Hg
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

theorem body_obligation (c : Dev nD) : BodyObligation (dats (F := F) m 0 c) (defs₀ (F := F)) Variants.none () Set.univ forgets0 := fun t => by
  rw [bigSep_W0, bigSep_W0, defs₀_row]
  exact sound_body m c t

set_option backward.isDefEq.respectTransparency.types false in
set_option maxHeartbeats 800000 in
/-- The run: it terminates, every semaphore is back at zero, every array the call only reads is unchanged. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m)
    (hmain := hmain m Variants.none) (hA := A_eq m) (hin := fun _ => .rfl) (hout := fun _ => .rfl)

/-- The frame: the run terminates, the arguments end unchanged, every semaphore at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 1 rfl).trans ((A_eq m c 1).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      (Pipeline.RDat.FramePost.arr_in h.1 c 9 rfl).trans ((A_eq m c 9).trans (V_main_arg10 m c))⟩, h.2⟩) (run_main m ρ)

end Cert.Layer.Body

end
-- ==== Proof.LayerIdealLoop.lean ====
/- The layer kernel's recurrence at one chunk, trip by trip: the state a trip leaves and the eight rows it stores. -/
module

public import proofs.«01_k».proof.Proof.Gen.LayerIdeal.Frame
public import proofs.«01_k».proof.Proof.Gen.LayerIdeal.Skeleton
public import proofs.«01_k».proof.Proof.Gen.LayerIdeal.Loops
public import Idealize.ShloMosaic.Lib.Pipeline.ValueKit
public import Idealize.ShloMosaic.Lib.WritesUnit

@[expose] public section

set_option maxRecDepth 16384

noncomputable section

namespace Cert.LayerIdeal.Body

open Cert.LayerIdeal Cert.LayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The loop's rows -/

theorem trips_eq : k0_t1_loop.trips = 32 := by decide +kernel
theorem off1_eq : ∀ k : Fin k0_t1_loop.trips, k0_off1 k = ![8 * k.val, 0] :=
  (by decide +kernel : ∀ k : Fin k0_t1_loop.trips, k0_off1 k = ![8 * k.val, 0])
theorem off2_eq : ∀ k : Fin k0_t1_loop.trips, k0_off2 k = ![8 * k.val, 0] :=
  (by decide +kernel : ∀ k : Fin k0_t1_loop.trips, k0_off2 k = ![8 * k.val, 0])

/-- Trip `k`'s eight rows of a chunk-sized array. -/
def rows (k : Fin k0_t1_loop.trips) (D : Vec F S256x1536 .f32) : Vec F S8x1536 .f32 :=
  View.ld D (Rect.unit (s := S256x1536) (k0_off1 k) S8x1536.size (k0_off1_inb k))
def rowsS (k : Fin k0_t1_loop.trips) (D : Vec F S256x16 .f32) : Vec F S8x16 .f32 :=
  View.ld D (Rect.unit (s := S256x16) (k0_off2 k) S8x16.size (k0_off2_inb k))

/-- The state after trip `k`, -/
def tripH (al : Vec F S16x1536 .f32) (dt dx : Vec F S256x1536 .f32) (b : Vec F S256x16 .f32) (k : Fin k0_t1_loop.trips) (acc : Vec F S16x1536 .f32) : Vec F S16x1536 .f32 :=
  k0_pay39 al (rows k dt) (rows k dx) (k0_pay2 (rowsS k b))
    (k0_pay17 (k0_pay37 al) (rows k dt) (rows k dx) (k0_pay2 (rowsS k b)) (k0_pay8 (k0_pay37 al) acc (rows k dt) (rows k dx) (rowsS k b)) (k0_pay9 (rowsS k b)) (k0_pay10 (rows k dx)))
/-- and the rows it stores. -/
def tripY (al : Vec F S16x1536 .f32) (dt dx : Vec F S256x1536 .f32) (b cc : Vec F S256x16 .f32) (k : Fin k0_t1_loop.trips) (acc : Vec F S16x1536 .f32) : Vec F S8x1536 .f32 :=
  k0_pay40 al (rows k dt) (rows k dx) (k0_pay2 (rowsS k b)) (k0_pay3 (rowsS k cc))
    (k0_pay5 (k0_pay37 al) acc (rows k dt) (rows k dx) (rowsS k b) (rowsS k cc))
    (k0_pay7 (k0_pay37 al) acc (rows k dt) (rows k dx) (rowsS k b) (rowsS k cc))
    (k0_pay12 (k0_pay3 (rowsS k cc)) (k0_pay8 (k0_pay37 al) acc (rows k dt) (rows k dx) (rowsS k b)) (k0_pay9 (rowsS k b)) (k0_pay10 (rows k dx)))
    (k0_pay14 (k0_pay37 al) (rows k dt) (rows k dx) (k0_pay2 (rowsS k b)) (k0_pay3 (rowsS k cc)) (k0_pay8 (k0_pay37 al) acc (rows k dt) (rows k dx) (rowsS k b)) (k0_pay9 (rowsS k b)) (k0_pay10 (rows k dx)))
    (k0_pay16 (k0_pay37 al) (rows k dt) (rows k dx) (k0_pay2 (rowsS k b)) (k0_pay3 (rowsS k cc)) (k0_pay8 (k0_pay37 al) acc (rows k dt) (rows k dx) (rowsS k b)) (k0_pay9 (rowsS k b)) (k0_pay10 (rows k dx)))
    (k0_pay17 (k0_pay37 al) (rows k dt) (rows k dx) (k0_pay2 (rowsS k b)) (k0_pay8 (k0_pay37 al) acc (rows k dt) (rows k dx) (rowsS k b)) (k0_pay9 (rowsS k b)) (k0_pay10 (rows k dx)))
    (k0_pay18 (k0_pay37 al) (rows k dt) (rows k dx) (k0_pay2 (rowsS k b)) (k0_pay3 (rowsS k cc)) (k0_pay8 (k0_pay37 al) acc (rows k dt) (rows k dx) (rowsS k b)) (k0_pay9 (rowsS k b)) (k0_pay10 (rows k dx)))

/-- The state before trip `n`. -/
def hIt (al : Vec F S16x1536 .f32) (dt dx : Vec F S256x1536 .f32) (b : Vec F S256x16 .f32) (h : Vec F S16x1536 .f32) : ℕ → Vec F S16x1536 .f32
  | 0 => h
  | n + 1 => if hn : n < k0_t1_loop.trips then tripH al dt dx b ⟨n, hn⟩ (hIt al dt dx b h n) else hIt al dt dx b h n

/-- Row `j`'s trip and its place among the trip's rows. -/
def tripOf (j : S256x1536.Idx) : Fin k0_t1_loop.trips :=
  ⟨(j (0 : Fin 2)).val / 8, by have h : (j (0 : Fin 2)).val < 256 := (j (0 : Fin 2)).isLt; rw [trips_eq]; omega⟩
def placeOf (j : S256x1536.Idx) : S8x1536.Idx := fun a => match a with
  | ⟨0, _⟩ => ⟨(j (0 : Fin 2)).val % 8, Nat.mod_lt _ (by decide)⟩
  | ⟨1, _⟩ => ⟨(j (1 : Fin 2)).val, (j (1 : Fin 2)).isLt⟩
/-- All rows the loop stores. -/
def yOut (al : Vec F S16x1536 .f32) (dt dx : Vec F S256x1536 .f32) (b cc : Vec F S256x16 .f32) (h : Vec F S16x1536 .f32) : Vec F S256x1536 .f32 := fun j =>
  tripY al dt dx b cc (tripOf j) (hIt al dt dx b h (tripOf j).val) (placeOf j)

theorem tripR_eq (𝒱 : Variants) (c : Dev nD) (bd : Option 𝒱.V) (i : grid0.Coords) (arg1 : Memref sig .tc .vmem S256x768 .f32) (harg1 : arg1.IsWhole) (arg2 : Memref sig .tc .vmem S3072x768 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S128x1536 .f32) (harg5 : arg5.IsWhole) (arg6 : Memref sig .tc .vmem S1536x128 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S1x1536 .f32) (harg9 : arg9.IsWhole) (arg10 : Memref sig .tc .vmem S768x1536 .f32) (harg10 : arg10.IsWhole) (arg11 : Memref sig .tc .vmem S1x768 .f32) (harg11 : arg11.IsWhole) (arg12 : Memref sig .tc .vmem S256x768 .f32) (harg12 : arg12.IsWhole) (arg13 : Memref sig .tc .vmem S16x1536 .f32) (harg13 : arg13.IsWhole) (arg14 : Memref sig .tc .vmem S8x1536 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1536 .f32) (harg17 : arg17.IsWhole) (arg18 : Memref sig .tc .vmem S256x16 .f32) (harg18 : arg18.IsWhole) (arg19 : Memref sig .tc .vmem S256x16 .f32) (harg19 : arg19.IsWhole) (arg20 : Memref sig .tc .vmem S256x1536 .f32) (harg20 : arg20.IsWhole) (v59 : FVec F S256x1536 .f32) (v62 : FVec F S256x128 .f32) (v69 : FVec F S256x1536 .f32) (cst_33 : F .f32) (v71 : FVec F S256x1536 .f32) (v73 : FVec F S256x1536 .f32) (v99 : Vec F S16x1536 .f32) (X16 : BufTy.Contents (Elt F) arg16.view.ty) (X17 : BufTy.Contents (Elt F) arg17.view.ty) (X18 : BufTy.Contents (Elt F) arg18.view.ty) (X19 : BufTy.Contents (Elt F) arg19.view.ty) (k : Fin k0_t1_loop.trips) (acc : Vec F S16x1536 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 k acc
      = tripH v99 (arg16.view.read (Elt F) X16) (arg17.view.read (Elt F) X17) (arg18.view.read (Elt F) X18) k acc := by
  unfold tripR_k0_t1 trip_k0_t1; rfl

theorem tripL_eq (𝒱 : Variants) (c : Dev nD) (bd : Option 𝒱.V) (i : grid0.Coords) (arg1 : Memref sig .tc .vmem S256x768 .f32) (harg1 : arg1.IsWhole) (arg2 : Memref sig .tc .vmem S3072x768 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S128x1536 .f32) (harg5 : arg5.IsWhole) (arg6 : Memref sig .tc .vmem S1536x128 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S1x1536 .f32) (harg9 : arg9.IsWhole) (arg10 : Memref sig .tc .vmem S768x1536 .f32) (harg10 : arg10.IsWhole) (arg11 : Memref sig .tc .vmem S1x768 .f32) (harg11 : arg11.IsWhole) (arg12 : Memref sig .tc .vmem S256x768 .f32) (harg12 : arg12.IsWhole) (arg13 : Memref sig .tc .vmem S16x1536 .f32) (harg13 : arg13.IsWhole) (arg14 : Memref sig .tc .vmem S8x1536 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1536 .f32) (harg17 : arg17.IsWhole) (arg18 : Memref sig .tc .vmem S256x16 .f32) (harg18 : arg18.IsWhole) (arg19 : Memref sig .tc .vmem S256x16 .f32) (harg19 : arg19.IsWhole) (arg20 : Memref sig .tc .vmem S256x1536 .f32) (harg20 : arg20.IsWhole) (v59 : FVec F S256x1536 .f32) (v62 : FVec F S256x128 .f32) (v69 : FVec F S256x1536 .f32) (cst_33 : F .f32) (v71 : FVec F S256x1536 .f32) (v73 : FVec F S256x1536 .f32) (v99 : Vec F S16x1536 .f32) (X16 : BufTy.Contents (Elt F) arg16.view.ty) (X17 : BufTy.Contents (Elt F) arg17.view.ty) (X18 : BufTy.Contents (Elt F) arg18.view.ty) (X19 : BufTy.Contents (Elt F) arg19.view.ty) (k : Fin k0_t1_loop.trips) (acc : Vec F S16x1536 .f32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 k acc
      = [⟨Rect.unit (s := S256x1536) (k0_off1 k) S8x1536.size (k0_off1_inb k), tripY v99 (arg16.view.read (Elt F) X16) (arg17.view.read (Elt F) X17) (arg18.view.read (Elt F) X18) (arg19.view.read (Elt F) X19) k acc⟩] := by
  unfold tripL_k0_t1 trip_k0_t1; rfl

/-- The carried value before trip `n`. -/
theorem st_h (𝒱 : Variants) (c : Dev nD) (bd : Option 𝒱.V) (i : grid0.Coords) (arg1 : Memref sig .tc .vmem S256x768 .f32) (harg1 : arg1.IsWhole) (arg2 : Memref sig .tc .vmem S3072x768 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S128x1536 .f32) (harg5 : arg5.IsWhole) (arg6 : Memref sig .tc .vmem S1536x128 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S1x1536 .f32) (harg9 : arg9.IsWhole) (arg10 : Memref sig .tc .vmem S768x1536 .f32) (harg10 : arg10.IsWhole) (arg11 : Memref sig .tc .vmem S1x768 .f32) (harg11 : arg11.IsWhole) (arg12 : Memref sig .tc .vmem S256x768 .f32) (harg12 : arg12.IsWhole) (arg13 : Memref sig .tc .vmem S16x1536 .f32) (harg13 : arg13.IsWhole) (arg14 : Memref sig .tc .vmem S8x1536 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1536 .f32) (harg17 : arg17.IsWhole) (arg18 : Memref sig .tc .vmem S256x16 .f32) (harg18 : arg18.IsWhole) (arg19 : Memref sig .tc .vmem S256x16 .f32) (harg19 : arg19.IsWhole) (arg20 : Memref sig .tc .vmem S256x1536 .f32) (harg20 : arg20.IsWhole) (v59 : FVec F S256x1536 .f32) (v62 : FVec F S256x128 .f32) (v69 : FVec F S256x1536 .f32) (cst_33 : F .f32) (v71 : FVec F S256x1536 .f32) (v73 : FVec F S256x1536 .f32) (v99 : Vec F S16x1536 .f32) (X16 : BufTy.Contents (Elt F) arg16.view.ty) (X17 : BufTy.Contents (Elt F) arg17.view.ty) (X18 : BufTy.Contents (Elt F) arg18.view.ty) (X19 : BufTy.Contents (Elt F) arg19.view.ty) (init : Vec F S16x1536 .f32) (n : ℕ) (hn : n ≤ 32) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 init n).1
      = hIt v99 (arg16.view.read (Elt F) X16) (arg17.view.read (Elt F) X17) (arg18.view.read (Elt F) X18) init n := by
  induction n with
  | zero => rfl
  | succ n ih =>
    have h' : n < k0_t1_loop.trips := by rw [trips_eq]; omega
    have := congrArg Prod.fst (st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 init ⟨n, h'⟩)
    refine this.trans ?_
    rw [hIt, dif_pos h', ← ih (by omega)]
    exact tripR_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 ⟨n, h'⟩ _

/-- The rows stored before trip `n`. -/
theorem st_y (𝒱 : Variants) (c : Dev nD) (bd : Option 𝒱.V) (i : grid0.Coords) (arg1 : Memref sig .tc .vmem S256x768 .f32) (harg1 : arg1.IsWhole) (arg2 : Memref sig .tc .vmem S3072x768 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S128x1536 .f32) (harg5 : arg5.IsWhole) (arg6 : Memref sig .tc .vmem S1536x128 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S1x1536 .f32) (harg9 : arg9.IsWhole) (arg10 : Memref sig .tc .vmem S768x1536 .f32) (harg10 : arg10.IsWhole) (arg11 : Memref sig .tc .vmem S1x768 .f32) (harg11 : arg11.IsWhole) (arg12 : Memref sig .tc .vmem S256x768 .f32) (harg12 : arg12.IsWhole) (arg13 : Memref sig .tc .vmem S16x1536 .f32) (harg13 : arg13.IsWhole) (arg14 : Memref sig .tc .vmem S8x1536 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1536 .f32) (harg17 : arg17.IsWhole) (arg18 : Memref sig .tc .vmem S256x16 .f32) (harg18 : arg18.IsWhole) (arg19 : Memref sig .tc .vmem S256x16 .f32) (harg19 : arg19.IsWhole) (arg20 : Memref sig .tc .vmem S256x1536 .f32) (harg20 : arg20.IsWhole) (v59 : FVec F S256x1536 .f32) (v62 : FVec F S256x128 .f32) (v69 : FVec F S256x1536 .f32) (cst_33 : F .f32) (v71 : FVec F S256x1536 .f32) (v73 : FVec F S256x1536 .f32) (v99 : Vec F S16x1536 .f32) (X16 : BufTy.Contents (Elt F) arg16.view.ty) (X17 : BufTy.Contents (Elt F) arg17.view.ty) (X18 : BufTy.Contents (Elt F) arg18.view.ty) (X19 : BufTy.Contents (Elt F) arg19.view.ty) (init : Vec F S16x1536 .f32)
    {sp : Space} (w : View sig .tc sp S256x1536 .f32) (f : w.ty.Contents (Elt F)) (n : ℕ) (hn : n ≤ 32) (j : S256x1536.Idx) (hj : (j (0 : Fin 2)).val < 8 * n) :
    w.read (Elt F) (w.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 init n).2) j
      = yOut v99 (arg16.view.read (Elt F) X16) (arg17.view.read (Elt F) X17) (arg18.view.read (Elt F) X18) (arg19.view.read (Elt F) X19) init j := by
  induction n with
  | zero => omega
  | succ n ih =>
    have h' : n < k0_t1_loop.trips := by rw [trips_eq]; omega
    have e : (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 init (n + 1)).2
        = ⟨Rect.unit (s := S256x1536) (k0_off1 ⟨n, h'⟩) S8x1536.size (k0_off1_inb ⟨n, h'⟩), tripY v99 (arg16.view.read (Elt F) X16) (arg17.view.read (Elt F) X17) (arg18.view.read (Elt F) X18) (arg19.view.read (Elt F) X19) ⟨n, h'⟩ (hIt v99 (arg16.view.read (Elt F) X16) (arg17.view.read (Elt F) X17) (arg18.view.read (Elt F) X18) init n)⟩
          :: (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 init n).2 := by
      refine (congrArg Prod.snd (st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 init ⟨n, h'⟩)).trans ?_
      rw [← st_h 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 init n (by omega)]
      exact congrArg (· ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 init n).2) (tripL_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 ⟨n, h'⟩ _)
    rw [e]
    by_cases hl : (j (0 : Fin 2)).val < 8 * n
    · exact (View.read_writes_cons_unit_of_not_mem w f _ _ _ j (off1_eq ⟨n, h'⟩) (0 : Fin 2) (.inl hl)).trans (ih (by omega) hl)
    · have ht : tripOf j = ⟨n, h'⟩ := Fin.ext (by show (j (0 : Fin 2)).val / 8 = n; omega)
      refine (View.read_writes_cons_unit_of_mem w f _ _ _ j (placeOf j) (off1_eq ⟨n, h'⟩) fun a => ?_).trans ?_
      · match a with
        | ⟨0, _⟩ => show (j (0 : Fin 2)).val = 8 * n + (j (0 : Fin 2)).val % 8; omega
        | ⟨1, _⟩ => show (j (1 : Fin 2)).val = 0 + (j (1 : Fin 2)).val; omega
      · unfold yOut; rw [ht]

end Cert.LayerIdeal.Body

end
-- ==== Proof.LayerIdealChunk.lean ====
/- The layer kernel's body at one grid point: what its output block, its carried state and its carried rows end at. -/
module

public import proofs.«01_k».proof.Proof.LayerIdealLoop

@[expose] public section

set_option maxRecDepth 16384

noncomputable section

namespace Cert.LayerIdeal.Body

open Cert.LayerIdeal Cert.LayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The first chunk of rows. -/
abbrev isFirst (i : grid0.Coords) : Prop := (Scalar.cmpi .ne (Scalar.extui (Scalar.cmpi .eq (BitVec.ofNat 32 (i 0).val) 0#32)) 0#32) = 1#1
instance (i : grid0.Coords) : Decidable (isFirst i) := inferInstanceAs (Decidable (_ = _))

/-- The state and the last rows of the chunk before, at the first chunk none. -/
def hIn (i : grid0.Coords) (h : Vec F S16x1536 .f32) : Vec F S16x1536 .f32 := if isFirst i then k0_pay23 else h
def tlIn (i : grid0.Coords) (tl : Vec F S8x1536 .f32) : Vec F S8x1536 .f32 := if isFirst i then k0_pay22 else tl

/-- Rows `o - 8` on of the chunk's rows, those before the chunk read off the rows kept. -/
def shv (o : ℕ) (ho : o ≤ 8) (tl : Vec F S8x1536 .f32) (xr : Vec F S256x1536 .f32) : Vec F S256x1536 .f32 := fun j =>
  if h : o + (j (0 : Fin 2)).val < 8 then tl (fun a => match a with | ⟨0, _⟩ => ⟨o + (j (0 : Fin 2)).val, h⟩ | ⟨1, _⟩ => ⟨(j (1 : Fin 2)).val, (j (1 : Fin 2)).isLt⟩)
  else xr (fun a => match a with | ⟨0, _⟩ => ⟨o + (j (0 : Fin 2)).val - 8, by have h : (j (0 : Fin 2)).val < 256 := (j (0 : Fin 2)).isLt; show _ < 256; omega⟩ | ⟨1, _⟩ => ⟨(j (1 : Fin 2)).val, (j (1 : Fin 2)).isLt⟩)

section
variable (x0 : Vec F S256x768 .f32) (x1 : Vec F S3072x768 .f32) (x2 : Vec F S4x1536 .f32) (x3 : Vec F S1x1536 .f32) (x4 : Vec F S128x1536 .f32)
  (x5 : Vec F S1536x128 .f32) (x6 : Vec F S1x1536 .f32) (x7 : Vec F S16x1536 .f32) (x8 : Vec F S1x1536 .f32) (x9 : Vec F S768x1536 .f32) (x10 : Vec F S1x768 .f32)
  (h : Vec F S16x1536 .f32) (tl : Vec F S8x1536 .f32)
/-- The chunk's convolved and gated rows, -/
def xiV : Vec F S256x1536 .f32 :=
  k0_pay27 x2 x3 (shv 5 (by decide) tl (k0_pay25 x0 x10 x1)) (shv 6 (by decide) tl (k0_pay25 x0 x10 x1)) (shv 7 (by decide) tl (k0_pay25 x0 x10 x1)) (shv 8 (by decide) tl (k0_pay25 x0 x10 x1))
/-- their projections, -/
def xdV : Vec F S256x128 .f32 :=
  k0_pay28 x2 x3 (shv 5 (by decide) tl (k0_pay25 x0 x10 x1)) (shv 6 (by decide) tl (k0_pay25 x0 x10 x1)) (shv 7 (by decide) tl (k0_pay25 x0 x10 x1)) (shv 8 (by decide) tl (k0_pay25 x0 x10 x1)) x4
def paV : Vec F S256x1536 .f32 :=
  k0_pay29 x2 x3 (shv 5 (by decide) tl (k0_pay25 x0 x10 x1)) (shv 6 (by decide) tl (k0_pay25 x0 x10 x1)) (shv 7 (by decide) tl (k0_pay25 x0 x10 x1)) (shv 8 (by decide) tl (k0_pay25 x0 x10 x1)) x4 x5 x6
def pbV : Vec F S256x1536 .f32 :=
  k0_pay30 x2 x3 (shv 5 (by decide) tl (k0_pay25 x0 x10 x1)) (shv 6 (by decide) tl (k0_pay25 x0 x10 x1)) (shv 7 (by decide) tl (k0_pay25 x0 x10 x1)) (shv 8 (by decide) tl (k0_pay25 x0 x10 x1)) x4 x5 x6
def pcV : Vec F S256x1536 .f32 :=
  k0_pay31 x2 x3 (shv 5 (by decide) tl (k0_pay25 x0 x10 x1)) (shv 6 (by decide) tl (k0_pay25 x0 x10 x1)) (shv 7 (by decide) tl (k0_pay25 x0 x10 x1)) (shv 8 (by decide) tl (k0_pay25 x0 x10 x1)) x4 x5 x6
/-- the step sizes, alone and against the rows, -/
def dtV : Vec F S256x1536 .f32 := k0_pay35 (paV x0 x1 x2 x3 x4 x5 x6 x10 tl) (FloatOps.ofBits FTy.f32 0#32) (pbV x0 x1 x2 x3 x4 x5 x6 x10 tl) (pcV x0 x1 x2 x3 x4 x5 x6 x10 tl)
def dxV : Vec F S256x1536 .f32 := k0_pay36 (xiV x0 x1 x2 x3 x10 tl) (paV x0 x1 x2 x3 x4 x5 x6 x10 tl) (FloatOps.ofBits FTy.f32 0#32) (pbV x0 x1 x2 x3 x4 x5 x6 x10 tl) (pcV x0 x1 x2 x3 x4 x5 x6 x10 tl)
/-- the input and output weights of the states, -/
def bV : Vec F S256x16 .f32 := k0_pay33 (xdV x0 x1 x2 x3 x4 x10 tl)
def cV : Vec F S256x16 .f32 := k0_pay34 (xdV x0 x1 x2 x3 x4 x10 tl)
/-- the recurrence's rows and last state, -/
def yV : Vec F S256x1536 .f32 := yOut x7 (dtV x0 x1 x2 x3 x4 x5 x6 x10 tl) (dxV x0 x1 x2 x3 x4 x5 x6 x10 tl) (bV x0 x1 x2 x3 x4 x10 tl) (cV x0 x1 x2 x3 x4 x10 tl) h
def hV : Vec F S16x1536 .f32 := k0_pay41 (hIt x7 (dtV x0 x1 x2 x3 x4 x5 x6 x10 tl) (dxV x0 x1 x2 x3 x4 x5 x6 x10 tl) (bV x0 x1 x2 x3 x4 x10 tl) h 32)
/-- and the output block. -/
def outV : Vec F S256x768 .f32 := k0_pay1 x0 (k0_pay21 x0 x10 x1) (xiV x0 x1 x2 x3 x10 tl) (yV x0 x1 x2 x3 x4 x5 x6 x7 x10 h tl) x8 x9
end

theorem zeros2 : (![0, 0] : Fin 2 → Nat) = fun _ => 0 := funext fun a => by fin_cases a <;> rfl

/-- A buffer whose last store covered it reads that store's payload. -/
theorem read_last {sp : Space} {S : Shape} {e : EltTy} (v : View sig .tc sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self, by
    subst h; show y ∈ (Rect.whole S).set; rw [Rect.set_whole]; exact Finset.mem_univ y⟩), View.canon_cons_unit_zero h]

/-- The convolution buffer, the kept rows above the chunk's, read from row `o`. -/
theorem conv_rd {sp : Space} (v : View sig .tc sp S264x1536 .f32) (o : ℕ) (ho : o ≤ 8) (ho5 : 5 ≤ o) (inb8) (inb5) (inbo) (a : Vec F S256x1536 .f32) (b : Vec F S3x1536 .f32) (tl : Vec F S8x1536 .f32)
    (hb : ∀ (j : S3x1536.Idx) (k : S8x1536.Idx), (k (0 : Fin 2)).val = 5 + (j (0 : Fin 2)).val → (k (1 : Fin 2)).val = (j (1 : Fin 2)).val → b j = tl k) :
    v.readCov [⟨Rect.unit (s := S264x1536) ![8, 0] S256x1536.size inb8, a⟩, ⟨Rect.unit (s := S264x1536) ![5, 0] S3x1536.size inb5, b⟩] (Rect.unit (s := S264x1536) ![o, 0] S256x1536.size inbo).toLoadRect
      = shv o ho tl a := by
  funext j
  have h0 : (j (0 : Fin 2)).val < 256 := (j (0 : Fin 2)).isLt
  have h1 : (j (1 : Fin 2)).val < 1536 := (j (1 : Fin 2)).isLt
  show v.read (Elt F) (v.writes (Elt F) v.junk _) ((Rect.unit (s := S264x1536) ![o, 0] S256x1536.size inbo).toLoadRect.idx j) = _
  have e0 : (((Rect.unit (s := S264x1536) ![o, 0] S256x1536.size inbo).toLoadRect.idx j) (0 : Fin 2)).val = o + (j (0 : Fin 2)).val := by
    show o + 1 * (j (0 : Fin 2)).val = _; omega
  have e1 : (((Rect.unit (s := S264x1536) ![o, 0] S256x1536.size inbo).toLoadRect.idx j) (1 : Fin 2)).val = (j (1 : Fin 2)).val := by
    show 0 + 1 * (j (1 : Fin 2)).val = _; omega
  generalize (Rect.unit (s := S264x1536) ![o, 0] S256x1536.size inbo).toLoadRect.idx j = y at e0 e1 ⊢
  unfold shv
  split
  · rename_i h
    refine (View.read_writes_cons_unit_of_not_mem v _ _ _ _ y rfl (0 : Fin 2) (.inl (by show (y (0 : Fin 2)).val < 8; omega))).trans ?_
    refine (View.read_writes_cons_unit_of_mem v _ _ _ _ y (fun a => match a with | ⟨0, _⟩ => ⟨o + (j (0 : Fin 2)).val - 5, by show _ < 3; omega⟩ | ⟨1, _⟩ => ⟨(j (1 : Fin 2)).val, h1⟩) rfl fun a => ?_).trans (hb _ _ ?_ rfl)
    · match a with
      | ⟨0, _⟩ => show (y (0 : Fin 2)).val = 5 + (o + (j (0 : Fin 2)).val - 5); omega
      | ⟨1, _⟩ => show (y (1 : Fin 2)).val = 0 + (j (1 : Fin 2)).val; omega
    · show o + (j (0 : Fin 2)).val = 5 + (o + (j (0 : Fin 2)).val - 5); omega
  · rename_i h
    refine (View.read_writes_cons_unit_of_mem v _ _ _ _ y (fun a => match a with | ⟨0, _⟩ => ⟨o + (j (0 : Fin 2)).val - 8, by show _ < 256; omega⟩ | ⟨1, _⟩ => ⟨(j (1 : Fin 2)).val, h1⟩ : S256x1536.Idx) rfl fun a => ?_).trans rfl
    match a with
    | ⟨0, _⟩ => show (y (0 : Fin 2)).val = 8 + (o + (j (0 : Fin 2)).val - 8); omega
    | ⟨1, _⟩ => show (y (1 : Fin 2)).val = 0 + (j (1 : Fin 2)).val; omega

theorem pay24_of (tl : Vec F S8x1536 .f32) (inb) (j : S3x1536.Idx) (k : S8x1536.Idx) (h0 : (k (0 : Fin 2)).val = 5 + (j (0 : Fin 2)).val) (h1 : (k (1 : Fin 2)).val = (j (1 : Fin 2)).val) :
    k0_pay24 (View.ld tl (Rect.unit (s := S8x1536) ![5, 0] S3x1536.size inb)) j = tl k := by
  rw [show (k0_pay24 (View.ld tl (Rect.unit (s := S8x1536) ![5, 0] S3x1536.size inb)) : Vec F S3x1536 .f32) = View.ld tl (Rect.unit (s := S8x1536) ![5, 0] S3x1536.size inb) from shapeCast_self _ _]
  exact View.ld_unit_apply_of tl _ _ _ j k fun a => match a with
    | ⟨0, _⟩ => h0
    | ⟨1, _⟩ => by show (k (1 : Fin 2)).val = 0 + (j (1 : Fin 2)).val; omega

/-- Rows read off the kept rows just stored whole. -/
theorem cov_ld {sp : Space} (v : View sig .tc sp S8x1536 .f32) (w : Vec F S8x1536 .f32) (inb) (inb5) :
    v.readCov [⟨Rect.unit (s := S8x1536) ![0, 0] S8x1536.size inb, w⟩] (Rect.unit (s := S8x1536) ![5, 0] S3x1536.size inb5).toLoadRect
      = View.ld w (Rect.unit (s := S8x1536) ![5, 0] S3x1536.size inb5) := by
  funext j
  show v.read (Elt F) (v.writes (Elt F) v.junk _) _ = w _
  rw [read_last _ _ zeros2 _ _ _]

theorem trips_lit : Scf.trips (0#32) (Scalar.addi 0#32 32#32) 1#32 = 32 := by decide +kernel

/-- The recurrence's rows read back whole after the loop. -/
theorem y_rd (𝒱 : Variants) (c : Dev nD) (bd : Option 𝒱.V) (i : grid0.Coords) (arg1 : Memref sig .tc .vmem S256x768 .f32) (harg1 : arg1.IsWhole) (arg2 : Memref sig .tc .vmem S3072x768 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S128x1536 .f32) (harg5 : arg5.IsWhole) (arg6 : Memref sig .tc .vmem S1536x128 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S1x1536 .f32) (harg9 : arg9.IsWhole) (arg10 : Memref sig .tc .vmem S768x1536 .f32) (harg10 : arg10.IsWhole) (arg11 : Memref sig .tc .vmem S1x768 .f32) (harg11 : arg11.IsWhole) (arg12 : Memref sig .tc .vmem S256x768 .f32) (harg12 : arg12.IsWhole) (arg13 : Memref sig .tc .vmem S16x1536 .f32) (harg13 : arg13.IsWhole) (arg14 : Memref sig .tc .vmem S8x1536 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1536 .f32) (harg17 : arg17.IsWhole) (arg18 : Memref sig .tc .vmem S256x16 .f32) (harg18 : arg18.IsWhole) (arg19 : Memref sig .tc .vmem S256x16 .f32) (harg19 : arg19.IsWhole) (arg20 : Memref sig .tc .vmem S256x1536 .f32) (harg20 : arg20.IsWhole) (v59 : FVec F S256x1536 .f32) (v62 : FVec F S256x128 .f32) (v69 : FVec F S256x1536 .f32) (cst_33 : F .f32) (v71 : FVec F S256x1536 .f32) (v73 : FVec F S256x1536 .f32) (v99 : Vec F S16x1536 .f32) (X16 : BufTy.Contents (Elt F) arg16.view.ty) (X17 : BufTy.Contents (Elt F) arg17.view.ty) (X18 : BufTy.Contents (Elt F) arg18.view.ty) (X19 : BufTy.Contents (Elt F) arg19.view.ty) (init : Vec F S16x1536 .f32)
    {sp : Space} (w : View sig .tc sp S256x1536 .f32) (f) :
    w.read (Elt F) (w.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 init 32).2)
      = yOut v99 (arg16.view.read (Elt F) X16) (arg17.view.read (Elt F) X17) (arg18.view.read (Elt F) X18) (arg19.view.read (Elt F) X19) init := by
  funext j
  have h0 : (j (0 : Fin 2)).val < 256 := (j (0 : Fin 2)).isLt
  exact st_y 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v59 v62 v69 cst_33 v71 v73 v99 X16 X17 X18 X19 init w f 32 le_rfl j (by omega)

end Cert.LayerIdeal.Body

end
-- ==== Proof.LayerIdealBody.lean ====
/- The layer kernel's body at one grid point: what its output block, its carried state and its carried rows end at. -/
module

public import proofs.«01_k».proof.Proof.LayerIdealChunk

@[expose] public section

set_option maxRecDepth 16384

noncomputable section

namespace Cert.LayerIdeal.Body

open Cert.LayerIdeal Cert.LayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
/-- THE BODY at a point. -/
theorem body (c : Dev nD) (i : grid0.Coords) (arg1 : Memref sig .tc .vmem S256x768 .f32) (harg1 : arg1.IsWhole) (arg2 : Memref sig .tc .vmem S3072x768 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S128x1536 .f32) (harg5 : arg5.IsWhole) (arg6 : Memref sig .tc .vmem S1536x128 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S1x1536 .f32) (harg9 : arg9.IsWhole) (arg10 : Memref sig .tc .vmem S768x1536 .f32) (harg10 : arg10.IsWhole) (arg11 : Memref sig .tc .vmem S1x768 .f32) (harg11 : arg11.IsWhole) (arg12 : Memref sig .tc .vmem S256x768 .f32) (harg12 : arg12.IsWhole) (arg13 : Memref sig .tc .vmem S16x1536 .f32) (harg13 : arg13.IsWhole) (arg14 : Memref sig .tc .vmem S8x1536 .f32) (harg14 : arg14.IsWhole) (arg15 : Memref sig .tc .vmem S264x1536 .f32) (harg15 : arg15.IsWhole) (arg16 : Memref sig .tc .vmem S256x1536 .f32) (harg16 : arg16.IsWhole) (arg17 : Memref sig .tc .vmem S256x1536 .f32) (harg17 : arg17.IsWhole) (arg18 : Memref sig .tc .vmem S256x16 .f32) (harg18 : arg18.IsWhole) (arg19 : Memref sig .tc .vmem S256x16 .f32) (harg19 : arg19.IsWhole) (arg20 : Memref sig .tc .vmem S256x1536 .f32) (harg20 : arg20.IsWhole)
    (x0 : Vec F S256x768 .f32) (x1 : Vec F S3072x768 .f32) (x2 : Vec F S4x1536 .f32) (x3 : Vec F S1x1536 .f32) (x4 : Vec F S128x1536 .f32) (x5 : Vec F S1536x128 .f32) (x6 : Vec F S1x1536 .f32) (x7 : Vec F S16x1536 .f32) (x8 : Vec F S1x1536 .f32) (x9 : Vec F S768x1536 .f32) (x10 : Vec F S1x768 .f32) (x11 : Vec F S256x768 .f32) (x12 : Vec F S16x1536 .f32) (x13 : Vec F S8x1536 .f32) (x14 : Vec F S264x1536 .f32) (x15 : Vec F S256x1536 .f32) (x16 : Vec F S256x1536 .f32) (x17 : Vec F S256x16 .f32) (x18 : Vec F S256x16 .f32) (x19 : Vec F S256x1536 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outV x0 x1 x2 x3 x4 x5 x6 x7 x8 x9 x10 (hIn i x12) (tlIn i x13)) ∗ owns (c : Thread nD τ) arg13 fullShare (hV x0 x1 x2 x3 x4 x5 x6 x7 x10 (hIn i x12) (tlIn i x13)) ∗ owns (c : Thread nD τ) arg14 fullShare (k0_pay26 x0 x10 x1) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (cc0_mamba_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_mamba_layer_eq_skeleton]; unfold cc0_mamba_layer_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg14.eq_unread hf13
  by_cases hc0 : isFirst i
  all_goals
    sl_exec (disch := sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; swap; · iexact H11
      ipureintro
      with_reducible refine (read_last _ _ zeros2 _ _ _).trans ?_
      sl_unfold_words
      simp (disch := decide) only [View.readAt_eq_ld, Memref.IsWhole.read_unread, View.ld_unit_lit', View.readCov_unit_lit', View.readCov_cons_unit_lit', hf0,hf1,hf2,hf3,hf4,hf5,hf6,hf7,hf8,hf9,hf10, hf12, trips_lit]
      (try simp only [hIn, tlIn])
      (first | simp only [if_pos hc0] | simp only [if_neg hc0] | skip)
      (try rw [cov_ld])
      first | simp only [conv_rd arg15.view 5 (by decide) (by decide) _ _ _ _ _ k0_pay22 (pay24_of k0_pay22 _)] | simp only [conv_rd arg15.view 5 (by decide) (by decide) _ _ _ _ _ x13 (pay24_of x13 _)]
      first | simp only [conv_rd arg15.view 6 (by decide) (by decide) _ _ _ _ _ k0_pay22 (pay24_of k0_pay22 _)] | simp only [conv_rd arg15.view 6 (by decide) (by decide) _ _ _ _ _ x13 (pay24_of x13 _)]
      first | simp only [conv_rd arg15.view 7 (by decide) (by decide) _ _ _ _ _ k0_pay22 (pay24_of k0_pay22 _)] | simp only [conv_rd arg15.view 7 (by decide) (by decide) _ _ _ _ _ x13 (pay24_of x13 _)]
      first | simp only [conv_rd arg15.view 8 (by decide) (by decide) _ _ _ _ _ k0_pay22 (pay24_of k0_pay22 _)] | simp only [conv_rd arg15.view 8 (by decide) (by decide) _ _ _ _ _ x13 (pay24_of x13 _)]
      rw [y_rd]
      simp only [read_last (S := S256x1536) (e := .f32) _ _ zeros2, read_last (S := S256x16) (e := .f32) _ _ zeros2]
      unfold outV yV dxV dtV bV cV paV pbV pcV xdV xiV
      with_reducible rfl
    isplitl [H12]
    · iexists _; isplitr; swap; · iexact H12
      ipureintro
      with_reducible refine (read_last _ _ zeros2 _ _ _).trans ?_
      sl_unfold_words
      simp (disch := decide) only [View.readAt_eq_ld, Memref.IsWhole.read_unread, View.ld_unit_lit', View.readCov_unit_lit', View.readCov_cons_unit_lit', hf0,hf1,hf2,hf3,hf4,hf5,hf6,hf7,hf8,hf9,hf10, hf12, trips_lit]
      (try simp only [hIn, tlIn])
      (first | simp only [if_pos hc0] | simp only [if_neg hc0] | skip)
      (try rw [cov_ld])
      first | simp only [conv_rd arg15.view 5 (by decide) (by decide) _ _ _ _ _ k0_pay22 (pay24_of k0_pay22 _)] | simp only [conv_rd arg15.view 5 (by decide) (by decide) _ _ _ _ _ x13 (pay24_of x13 _)]
      first | simp only [conv_rd arg15.view 6 (by decide) (by decide) _ _ _ _ _ k0_pay22 (pay24_of k0_pay22 _)] | simp only [conv_rd arg15.view 6 (by decide) (by decide) _ _ _ _ _ x13 (pay24_of x13 _)]
      first | simp only [conv_rd arg15.view 7 (by decide) (by decide) _ _ _ _ _ k0_pay22 (pay24_of k0_pay22 _)] | simp only [conv_rd arg15.view 7 (by decide) (by decide) _ _ _ _ _ x13 (pay24_of x13 _)]
      first | simp only [conv_rd arg15.view 8 (by decide) (by decide) _ _ _ _ _ k0_pay22 (pay24_of k0_pay22 _)] | simp only [conv_rd arg15.view 8 (by decide) (by decide) _ _ _ _ _ x13 (pay24_of x13 _)]
      rw [st_h _ _ _ _ _ _ _ _ _ _ _ _ _ _ _ _ _ _ _ _ _ _ _ _ _ _ _ _ _ _ _ _ _ _ _ _ _ _ _ _ _ _ _ _ _ _ _ _ _ _ _ _ _ _ _ _ 32 le_rfl]
      simp only [read_last (S := S256x1536) (e := .f32) _ _ zeros2, read_last (S := S256x16) (e := .f32) _ _ zeros2]
      unfold hV dxV dtV bV paV pbV pcV xdV xiV
      with_reducible rfl
    isplitl [H13]
    · iexists _; isplitr; swap; · iexact H13
      ipureintro
      sl_unfold_words
      with_reducible refine (read_last _ _ zeros2 _ _ _).trans ?_
      try sl_unfold_words
      simp (disch := decide) only [View.readAt_eq_ld, Memref.IsWhole.read_unread, View.ld_unit_lit', View.readCov_unit_lit', View.readCov_cons_unit_lit', hf0,hf1,hf2,hf3,hf4,hf5,hf6,hf7,hf8,hf9,hf10, hf12, trips_lit]
      (try simp only [hIn, tlIn])
      (first | simp only [if_pos hc0] | simp only [if_neg hc0] | skip)
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    iexists _; iexists _; isplitr; swap; · iexact H19
    ipureintro; rfl

end Cert.LayerIdeal.Body

end
-- ==== Proof.LayerIdealPoints.lean ====
/- The layer kernel's grid: where the chunks start, and the buffers the body is called with. -/
module

public import proofs.«01_k».proof.Proof.LayerIdealBody

@[expose] public section

set_option maxRecDepth 16384

noncomputable section

namespace Cert.LayerIdeal.Body

open Cert.LayerIdeal Cert.LayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Only the first point starts the sequence. -/
theorem isFirst_iff : ∀ t : Fin cfg0.N, isFirst (grid0.coords t) ↔ t.val = 0 :=
  (by decide +kernel : ∀ t : Fin grid0.N, isFirst (grid0.coords t) ↔ t.val = 0)

/-! ## The buffers -/

abbrev ms0_0 (t : Fin cfg0.N) : Memref sig .tc .vmem S256x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1536 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1536 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x1536 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x768 .f32 := win0_11.stage (cfg0.slots t 11)
abbrev hs0_11 (t : Fin cfg0.N) : (ms0_11 t).IsWhole := hstage0_11 ((cfg0.slots t 11).cast nbuf0_11)
abbrev scM0_0 : Memref sig .tc .vmem S16x1536 .f32 := Memref.whole cc0_scratch0
abbrev scM0_1 : Memref sig .tc .vmem S8x1536 .f32 := Memref.whole cc0_scratch1
abbrev scM0_2 : Memref sig .tc .vmem S264x1536 .f32 := Memref.whole cc0_scratch2
abbrev scM0_3 : Memref sig .tc .vmem S256x1536 .f32 := Memref.whole cc0_scratch3
abbrev scM0_4 : Memref sig .tc .vmem S256x1536 .f32 := Memref.whole cc0_scratch4
abbrev scM0_5 : Memref sig .tc .vmem S256x16 .f32 := Memref.whole cc0_scratch5
abbrev scM0_6 : Memref sig .tc .vmem S256x16 .f32 := Memref.whole cc0_scratch6
abbrev scM0_7 : Memref sig .tc .vmem S256x1536 .f32 := Memref.whole cc0_scratch7

/-- What the launch hands the region beside the windows: the scratch buffers at some contents and the generator. -/
theorem PhiA_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

end Cert.LayerIdeal.Body

end
-- ==== Proof.LayerIdealFrame.lean ====
/- The layer program at the ideal values, every buffer named: the state and the last rows carried between the chunks, the
   output's blocks. -/
module

public import proofs.«01_k».proof.Proof.LayerIdealPoints

@[expose] public section

set_option maxRecDepth 16384

noncomputable section

namespace Cert.LayerIdeal.Body

open Cert.LayerIdeal Cert.LayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What is carried -/

/-- The blocks at a point. -/
def B0 (c : Dev nD) (t : Fin cfg0.N) : FVec Ideal S256x768 .f32 := iblk m c 0 t
def B1 (c : Dev nD) (t : Fin cfg0.N) : FVec Ideal S3072x768 .f32 := iblk m c 1 t
def B2 (c : Dev nD) (t : Fin cfg0.N) : FVec Ideal S4x1536 .f32 := iblk m c 2 t
def B3 (c : Dev nD) (t : Fin cfg0.N) : FVec Ideal S1x1536 .f32 := iblk m c 3 t
def B4 (c : Dev nD) (t : Fin cfg0.N) : FVec Ideal S128x1536 .f32 := iblk m c 4 t
def B5 (c : Dev nD) (t : Fin cfg0.N) : FVec Ideal S1536x128 .f32 := iblk m c 5 t
def B6 (c : Dev nD) (t : Fin cfg0.N) : FVec Ideal S1x1536 .f32 := iblk m c 6 t
def B7 (c : Dev nD) (t : Fin cfg0.N) : FVec Ideal S16x1536 .f32 := iblk m c 7 t
def B8 (c : Dev nD) (t : Fin cfg0.N) : FVec Ideal S1x1536 .f32 := iblk m c 8 t
def B9 (c : Dev nD) (t : Fin cfg0.N) : FVec Ideal S768x1536 .f32 := iblk m c 9 t
def B10 (c : Dev nD) (t : Fin cfg0.N) : FVec Ideal S1x768 .f32 := iblk m c 10 t

/-- What a chunk leaves: its state, its last rows, its output block. -/
def hN (c : Dev nD) (t : Fin cfg0.N) (h : FVec Ideal S16x1536 .f32) (tl : FVec Ideal S8x1536 .f32) : FVec Ideal S16x1536 .f32 := hV (F := Ideal) (B0 m c t) (B1 m c t) (B2 m c t) (B3 m c t) (B4 m c t) (B5 m c t) (B6 m c t) (B7 m c t) (B10 m c t) h tl
def tN (c : Dev nD) (t : Fin cfg0.N) : FVec Ideal S8x1536 .f32 := k0_pay26 (F := Ideal) (B0 m c t) (B10 m c t) (B1 m c t)
def oN (c : Dev nD) (t : Fin cfg0.N) (h : FVec Ideal S16x1536 .f32) (tl : FVec Ideal S8x1536 .f32) : FVec Ideal S256x768 .f32 := outV (F := Ideal) (B0 m c t) (B1 m c t) (B2 m c t) (B3 m c t) (B4 m c t) (B5 m c t) (B6 m c t) (B7 m c t) (B8 m c t) (B9 m c t) (B10 m c t) h tl

/-- The rows kept before chunk `n`, -/
def tPre (c : Dev nD) : ℕ → FVec Ideal S8x1536 .f32
  | 0 => k0_pay22 (F := Ideal)
  | n + 1 => if h : n < cfg0.N then tN m c ⟨n, h⟩ else k0_pay22 (F := Ideal)
/-- and the state before it. -/
def hPre (c : Dev nD) : ℕ → FVec Ideal S16x1536 .f32
  | 0 => k0_pay23 (F := Ideal)
  | n + 1 => if h : n < cfg0.N then hN m c ⟨n, h⟩ (hPre c n) (tPre m c n) else hPre c n

theorem hPre_succ (c : Dev nD) (t : Fin cfg0.N) : hPre m c (t.val + 1) = hN m c t (hPre m c t.val) (tPre m c t.val) := by
  rw [hPre, dif_pos t.isLt]
theorem tPre_succ (c : Dev nD) (t : Fin cfg0.N) : tPre m c (t.val + 1) = tN m c t := by
  rw [tPre, dif_pos t.isLt]

/-! ## The proof data -/

/-- The invariant before point `n`. -/
def PhiS (c : Dev nD) : (n : ℕ) → sProp 𝕄
  | 0 => Pipeline.ΦA spec0 c
  | n + 1 => iprop(iprop(owns (c : Thread nD τ) scM0_0 fullShare (hPre m c (n + 1)) ∗ owns (c : Thread nD τ) scM0_1 fullShare (tPre m c (n + 1)) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => oN m c t (hPre m c t.val) (tPre m c t.val)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = B0 m c t := by dsimp only [dats]; rfl
theorem after0_1 (c : Dev nD) (t : Fin cfg0.N) : (dats m 0 c).after 1 t = B1 m c t := by dsimp only [dats]; rfl
theorem after0_2 (c : Dev nD) (t : Fin cfg0.N) : (dats m 0 c).after 2 t = B2 m c t := by dsimp only [dats]; rfl
theorem after0_3 (c : Dev nD) (t : Fin cfg0.N) : (dats m 0 c).after 3 t = B3 m c t := by dsimp only [dats]; rfl
theorem after0_4 (c : Dev nD) (t : Fin cfg0.N) : (dats m 0 c).after 4 t = B4 m c t := by dsimp only [dats]; rfl
theorem after0_5 (c : Dev nD) (t : Fin cfg0.N) : (dats m 0 c).after 5 t = B5 m c t := by dsimp only [dats]; rfl
theorem after0_6 (c : Dev nD) (t : Fin cfg0.N) : (dats m 0 c).after 6 t = B6 m c t := by dsimp only [dats]; rfl
theorem after0_7 (c : Dev nD) (t : Fin cfg0.N) : (dats m 0 c).after 7 t = B7 m c t := by dsimp only [dats]; rfl
theorem after0_8 (c : Dev nD) (t : Fin cfg0.N) : (dats m 0 c).after 8 t = B8 m c t := by dsimp only [dats]; rfl
theorem after0_9 (c : Dev nD) (t : Fin cfg0.N) : (dats m 0 c).after 9 t = B9 m c t := by dsimp only [dats]; rfl
theorem after0_10 (c : Dev nD) (t : Fin cfg0.N) : (dats m 0 c).after 10 t = B10 m c t := by dsimp only [dats]; rfl
theorem after0_11 (c : Dev nD) (t : Fin cfg0.N) : (dats m 0 c).after 11 t = oN m c t (hPre m c t.val) (tPre m c t.val) := by dsimp only [dats]
theorem before0_0 (c : Dev nD) (t : Fin cfg0.N) (d) : (dats m 0 c).before 0 t d = B0 m c t :=
  before0_0_of m (dats m 0 c) (A_eq m c 0) (fun t => by dsimp only [dats]) t d
theorem before0_1 (c : Dev nD) (t : Fin cfg0.N) (d) : (dats m 0 c).before 1 t d = B1 m c t :=
  before0_1_of m (dats m 0 c) (A_eq m c 1) (fun t => by dsimp only [dats]) t d
theorem before0_2 (c : Dev nD) (t : Fin cfg0.N) (d) : (dats m 0 c).before 2 t d = B2 m c t :=
  before0_2_of m (dats m 0 c) (A_eq m c 2) (fun t => by dsimp only [dats]) t d
theorem before0_3 (c : Dev nD) (t : Fin cfg0.N) (d) : (dats m 0 c).before 3 t d = B3 m c t :=
  before0_3_of m (dats m 0 c) (A_eq m c 3) (fun t => by dsimp only [dats]) t d
theorem before0_4 (c : Dev nD) (t : Fin cfg0.N) (d) : (dats m 0 c).before 4 t d = B4 m c t :=
  before0_4_of m (dats m 0 c) (A_eq m c 4) (fun t => by dsimp only [dats]) t d
theorem before0_5 (c : Dev nD) (t : Fin cfg0.N) (d) : (dats m 0 c).before 5 t d = B5 m c t :=
  before0_5_of m (dats m 0 c) (A_eq m c 5) (fun t => by dsimp only [dats]) t d
theorem before0_6 (c : Dev nD) (t : Fin cfg0.N) (d) : (dats m 0 c).before 6 t d = B6 m c t :=
  before0_6_of m (dats m 0 c) (A_eq m c 6) (fun t => by dsimp only [dats]) t d
theorem before0_7 (c : Dev nD) (t : Fin cfg0.N) (d) : (dats m 0 c).before 7 t d = B7 m c t :=
  before0_7_of m (dats m 0 c) (A_eq m c 7) (fun t => by dsimp only [dats]) t d
theorem before0_8 (c : Dev nD) (t : Fin cfg0.N) (d) : (dats m 0 c).before 8 t d = B8 m c t :=
  before0_8_of m (dats m 0 c) (A_eq m c 8) (fun t => by dsimp only [dats]) t d
theorem before0_9 (c : Dev nD) (t : Fin cfg0.N) (d) : (dats m 0 c).before 9 t d = B9 m c t :=
  before0_9_of m (dats m 0 c) (A_eq m c 9) (fun t => by dsimp only [dats]) t d
theorem before0_10 (c : Dev nD) (t : Fin cfg0.N) (d) : (dats m 0 c).before 10 t d = B10 m c t :=
  before0_10_of m (dats m 0 c) (A_eq m c 10) (fun t => by dsimp only [dats]) t d
theorem leaves_0 (c : Dev nD) (t : Fin cfg0.N) : (dats m 0 c).leaves 0 t = owns (c : Thread nD τ) (ms0_0 t) fullShare ((dats m 0 c).after 0 t) := rfl
theorem leaves_1 (c : Dev nD) (t : Fin cfg0.N) : (dats m 0 c).leaves 1 t = owns (c : Thread nD τ) (ms0_1 t) fullShare ((dats m 0 c).after 1 t) := rfl
theorem leaves_2 (c : Dev nD) (t : Fin cfg0.N) : (dats m 0 c).leaves 2 t = owns (c : Thread nD τ) (ms0_2 t) fullShare ((dats m 0 c).after 2 t) := rfl
theorem leaves_3 (c : Dev nD) (t : Fin cfg0.N) : (dats m 0 c).leaves 3 t = owns (c : Thread nD τ) (ms0_3 t) fullShare ((dats m 0 c).after 3 t) := rfl
theorem leaves_4 (c : Dev nD) (t : Fin cfg0.N) : (dats m 0 c).leaves 4 t = owns (c : Thread nD τ) (ms0_4 t) fullShare ((dats m 0 c).after 4 t) := rfl
theorem leaves_5 (c : Dev nD) (t : Fin cfg0.N) : (dats m 0 c).leaves 5 t = owns (c : Thread nD τ) (ms0_5 t) fullShare ((dats m 0 c).after 5 t) := rfl
theorem leaves_6 (c : Dev nD) (t : Fin cfg0.N) : (dats m 0 c).leaves 6 t = owns (c : Thread nD τ) (ms0_6 t) fullShare ((dats m 0 c).after 6 t) := rfl
theorem leaves_7 (c : Dev nD) (t : Fin cfg0.N) : (dats m 0 c).leaves 7 t = owns (c : Thread nD τ) (ms0_7 t) fullShare ((dats m 0 c).after 7 t) := rfl
theorem leaves_8 (c : Dev nD) (t : Fin cfg0.N) : (dats m 0 c).leaves 8 t = owns (c : Thread nD τ) (ms0_8 t) fullShare ((dats m 0 c).after 8 t) := rfl
theorem leaves_9 (c : Dev nD) (t : Fin cfg0.N) : (dats m 0 c).leaves 9 t = owns (c : Thread nD τ) (ms0_9 t) fullShare ((dats m 0 c).after 9 t) := rfl
theorem leaves_10 (c : Dev nD) (t : Fin cfg0.N) : (dats m 0 c).leaves 10 t = owns (c : Thread nD τ) (ms0_10 t) fullShare ((dats m 0 c).after 10 t) := rfl
theorem leaves_11 (c : Dev nD) (t : Fin cfg0.N) : (dats m 0 c).leaves 11 t = owns (c : Thread nD τ) (ms0_11 t) fullShare ((dats m 0 c).after 11 t) := rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t)

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  have key : ∀ (h : FVec Ideal S16x1536 .f32) (tl : FVec Ideal S8x1536 .f32)
      (hh : hIn (F := Ideal) (grid0.coords t) h = hPre m c t.val) (ht : tlIn (F := Ideal) (grid0.coords t) tl = tPre m c t.val),
      iprop((owns (c : Thread nD τ) scM0_0 fullShare h ∗ owns (c : Thread nD τ) scM0_1 fullShare tl ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
      ⊢ wp frame (wpE (defs₀ (F := Ideal)) Variants.none c none) Set.univ (bodyAt0 t) (fun _ => bodyPost m c t) := by
    intro h tl hh ht
    unfold bodyPost bodyAt0
    simp only [before0_0, before0_1, before0_2, before0_3, before0_4, before0_5, before0_6, before0_7, before0_8, before0_9, before0_10]
    rw [show (dats m 0 c).owesAt () t.succ = (dats m 0 c).owesAt () t.castSucc from rfl,
      show (dats m 0 c).Φ t.succ = PhiS m c (t.val + 1) from rfl, PhiS, hPre_succ, tPre_succ, leaves_0, leaves_1, leaves_2, leaves_3, leaves_4, leaves_5, leaves_6, leaves_7, leaves_8, leaves_9, leaves_10, leaves_11, after0_0, after0_1, after0_2, after0_3, after0_4, after0_5, after0_6, after0_7, after0_8, after0_9, after0_10, after0_11]
    iintro ⟨⟨HS0, HS1, ⟨%e2, HS2⟩, ⟨%e3, HS3⟩, ⟨%e4, HS4⟩, ⟨%e5, HS5⟩, ⟨%e6, HS6⟩, ⟨%e7, HS7⟩⟩, Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body (F := Ideal) c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ _ _ _ _ _ _ _ _ _ _ _ _ _ _ _  (B0 m c t) (B1 m c t) (B2 m c t) (B3 m c t) (B4 m c t) (B5 m c t) (B6 m c t) (B7 m c t) (B8 m c t) (B9 m c t) (B10 m c t) _ h tl e2 e3 e4 e5 e6 e7 Set.univ _)
    rw [hh, ht]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, H10, H11, HS0, HS1, ⟨%e2, HS2⟩, ⟨%e3, HS3⟩, ⟨%e4, HS4⟩, ⟨%e5, HS5⟩, ⟨%e6, HS6⟩, ⟨%e7, HS7⟩⟩
    isplitl [HS0 HS1 HS2 HS3 HS4 HS5 HS6 HS7 Hg]
    · isplitl [HS0 HS1 HS2 HS3 HS4 HS5 HS6 HS7]
      · isplitl [HS0]; · iexact HS0
        isplitl [HS1]; · iexact HS1
        isplitl [HS2]; · iexists _; iexact HS2
        isplitl [HS3]; · iexists _; iexact HS3
        isplitl [HS4]; · iexists _; iexact HS4
        isplitl [HS5]; · iexists _; iexact HS5
        isplitl [HS6]; · iexists _; iexact HS6
        iexists _; iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  unfold bodyPre
  rw [show (dats m 0 c).Φ t.castSucc = PhiS m c t.val from rfl]
  by_cases hz : t.val = 0
  · rw [hz, PhiS, PhiA_eq]
    iintro ⟨⟨⟨⟨%h, HS0⟩, ⟨%tl, HS1⟩, HSr⟩, Hg⟩, Hr⟩
    iapply (key h tl (by rw [hIn, if_pos ((isFirst_iff t).mpr hz), hz, hPre]) (by rw [tlIn, if_pos ((isFirst_iff t).mpr hz), hz, tPre]))
    isplitl [HS0 HS1 HSr]
    · isplitl [HS0]; · iexact HS0
      isplitl [HS1]; · iexact HS1
      iexact HSr
    isplitl [Hg]; · iexact Hg
    iexact Hr
  · obtain ⟨n, hn⟩ : ∃ n, t.val = n + 1 := ⟨t.val - 1, by omega⟩
    rw [hn, PhiS]
    iintro ⟨⟨⟨HS0, HS1, HSr⟩, Hg⟩, Hr⟩
    iapply (key (hPre m c (n + 1)) (tPre m c (n + 1)) (by rw [hIn, if_neg (fun hh => hz ((isFirst_iff t).mp hh)), hn]) (by rw [tlIn, if_neg (fun hh => hz ((isFirst_iff t).mp hh)), hn]))
    isplitl [HS0 HS1 HSr]
    · isplitl [HS0]; · iexact HS0
      isplitl [HS1]; · iexact HS1
      iexact HSr
    isplitl [Hg]; · iexact Hg
    iexact Hr

theorem body_obligation (c : Dev nD) : BodyObligationLoose (dats m 0 c) (defs₀ (F := Ideal)) Variants.none () Set.univ := fun t => by
  rw [bigSep_W0, bigSep_W0, defs₀_row]
  exact sound_body m c t

theorem hin (c : Dev nD) : Pipeline.ΦA spec0 c ⊢ (dats m 0 c).Φ 0 := by
  rw [show (dats m 0 c).Φ 0 = PhiS m c 0 from rfl, PhiS]

theorem hout (c : Dev nD) : (dats m 0 c).Φ (Fin.last cfg0.N) ⊢ Pipeline.ΦA spec0 c := by
  rw [show (dats m 0 c).Φ (Fin.last cfg0.N) = PhiS m c (7 + 1) from (rfl : _ = PhiS m c cfg0.N).trans (congrArg (PhiS m c) N_0), PhiS, PhiA_eq]
  iintro ⟨⟨HS0, HS1, HSr⟩, Hg⟩
  isplitl [HS0 HS1 HSr]
  · isplitl [HS0]; · iexists _; iexact HS0
    isplitl [HS1]; · iexists _; iexact HS1
    iexact HSr
  iexact Hg

set_option backward.isDefEq.respectTransparency.types false in
set_option maxHeartbeats 800000 in
/-- The run: every array of the call at what the library computes of it, every semaphore at zero. -/
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m)
    (hmain := hmain m Variants.none) (hA := A_eq m) (hin := hin m) (hout := hout m)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.LayerIdeal.Body

end
-- ==== Proof.LayerRefFrame.lean ====
/- The reference layer: the buffers its lines leave alone, and its frame. -/
module

public import proofs.«01_k».proof.Defs
public import proofs.«01_k».proof.Proof.Gen.LayerRefIdeal.Run
public import Idealize.ShloMosaic.Lib.Quiescent

@[expose] public section

set_option maxRecDepth 16384

noncomputable section

namespace Cert.LayerRefIdeal.Body

open Cert.LayerRefIdeal Cert.LayerRefIdeal.Gen Cert.LayerRefIdeal.Value
open Idealize.ShloMosaic Idealize.ShloMosaic.TcCoe Idealize.ShloMosaic.StableHlo Idealize.SL.Sem

variable {F : FTy → Type} [FloatOps F]

/-! ## Buffers the lines leave alone -/

/-- The lines before the loop. -/
theorem pre_keep (V : Valuation τ sig (Elt F)) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) : afterL preI V (Proc.devRef .tc r) = V (Proc.devRef .tc r) := by
  simp only [preI, afterL_cons, afterL_nil]
  rw [after_of_writes_sub hostOps0_6 _ hostOps0_6_writes h6, after_of_writes_sub hostOps0_5 _ hostOps0_5_writes h5, after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]
/-- One trip. -/
theorem body_keep (V : Valuation τ sig (Elt F)) (r : Ref sig .tc) (h0 : r ∉ while0Ops0_W) (h1 : r ∉ while0Ops0_1_W) (h2 : r ∉ while0Ops0_2_W) (h3 : r ∉ while0Ops0_3_W) (h4 : r ∉ while0Ops0_4_W) (h5 : r ∉ while0Ops0_5_W) (h6 : r ∉ while0Ops0_6_W) : afterL bodyI V (Proc.devRef .tc r) = V (Proc.devRef .tc r) := by
  simp only [bodyI, afterL_cons, afterL_nil]
  rw [after_of_writes_sub while0Ops0_6 _ while0Ops0_6_writes h6, after_of_writes_sub while0Ops0_5 _ while0Ops0_5_writes h5, after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0]

abbrev hostOps0_7_W : List (Ref sig .tc) := [main_v65, main_v66, main_v67, main_v68]
theorem hostOps0_7_writes : (hostOps0_7 : List (HloOp τ sig (Elt F))).Forall fun op => op.writes ⊆ (hostOps0_7_W.map (Proc.devRef (τ := τ) .tc)).toFinset := by
  simp only [List.Forall]
  refine ⟨?_, ?_, ?_, ?_⟩ <;>
    (simp only [nullary_writes, unary_writes, binary_writes, Finset.singleton_subset_iff, List.mem_toFinset]; exact List.mem_map_of_mem (by decide))

abbrev hostOps0_8_W : List (Ref sig .tc) := [main_call8_v0, main_call8_v1, main_call8_cst, main_call8_v2, main_call8_v3, main_call8_cst_0, main_call8_v4, main_call8_v5, main_v69]
theorem hostOps0_8_writes : (hostOps0_8 : List (HloOp τ sig (Elt F))).Forall fun op => op.writes ⊆ (hostOps0_8_W.map (Proc.devRef (τ := τ) .tc)).toFinset := by
  simp only [List.Forall]
  refine ⟨?_, ?_, ?_, ?_, ?_, ?_, ?_, ?_, ?_⟩ <;>
    (simp only [nullary_writes, unary_writes, binary_writes, Finset.singleton_subset_iff, List.mem_toFinset]; exact List.mem_map_of_mem (by decide))

abbrev hostOps0_9_W : List (Ref sig .tc) := [main_v70, main_v71, main_v72, main_v73]
theorem hostOps0_9_writes : (hostOps0_9 : List (HloOp τ sig (Elt F))).Forall fun op => op.writes ⊆ (hostOps0_9_W.map (Proc.devRef (τ := τ) .tc)).toFinset := by
  simp only [List.Forall]
  refine ⟨?_, ?_, ?_, ?_⟩ <;>
    (simp only [nullary_writes, unary_writes, binary_writes, Finset.singleton_subset_iff, List.mem_toFinset]; exact List.mem_map_of_mem (by decide))

variable (m : (ℓ : Loc nD τ sig) → Buf (Elt F) ℓ)

/-- Every trip. -/
theorem atK_keep (c : Dev nD) (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) (h5 : r ∉ while0Ops0_5_W) (h6 : r ∉ while0Ops0_6_W) :
    ∀ k, atK m k c (Proc.devRef .tc r) = entryContents preI m c (Proc.devRef .tc r)
  | 0 => rfl
  | k + 1 => by
    rw [show atK m (k + 1) c = afterL bodyI (after condOps (atK m k c)) from rfl, body_keep _ r h0 h1 h2 h3 h4 h5 h6, after_of_writes_sub condOps _ condOps_writes hc]
    exact atK_keep c r hc h0 h1 h2 h3 h4 h5 h6 k

theorem entry_arg0 (c : Dev nD) : entryContents preI m c (Proc.devRef .tc main_arg0) = m ((c.tc : Thread nD τ).loc main_arg0) :=
  pre_keep (launchContents m c) main_arg0 (by decide +kernel) (by decide +kernel) (by decide +kernel) (by decide +kernel) (by decide +kernel) (by decide +kernel) (by decide +kernel)
theorem exit_arg0 (c : Dev nD) : after condOps (atK m 2048 c) (Proc.devRef .tc main_arg0) = m ((c.tc : Thread nD τ).loc main_arg0) :=
  (after_of_writes_sub condOps _ condOps_writes (by decide +kernel)).trans ((atK_keep m c main_arg0 (by decide +kernel) (by decide +kernel) (by decide +kernel) (by decide +kernel) (by decide +kernel) (by decide +kernel) (by decide +kernel) (by decide +kernel) 2048).trans (entry_arg0 m c))
theorem final_arg0 (c : Dev nD) : finalContents condOps preI bodyI postI 2048 m c (Proc.devRef .tc main_arg0) = m ((c.tc : Thread nD τ).loc main_arg0) := by
  unfold finalContents
  simp only [postI, afterL_cons, afterL_nil]
  rw [after_of_writes_sub hostOps0_9 _ hostOps0_9_writes (by decide +kernel), after_of_writes_sub hostOps0_8 _ hostOps0_8_writes (by decide +kernel), after_of_writes_sub hostOps0_7 _ hostOps0_7_writes (by decide +kernel)]
  exact exit_arg0 m c
theorem entry_arg1 (c : Dev nD) : entryContents preI m c (Proc.devRef .tc main_arg1) = m ((c.tc : Thread nD τ).loc main_arg1) :=
  pre_keep (launchContents m c) main_arg1 (by decide +kernel) (by decide +kernel) (by decide +kernel) (by decide +kernel) (by decide +kernel) (by decide +kernel) (by decide +kernel)
theorem exit_arg1 (c : Dev nD) : after condOps (atK m 2048 c) (Proc.devRef .tc main_arg1) = m ((c.tc : Thread nD τ).loc main_arg1) :=
  (after_of_writes_sub condOps _ condOps_writes (by decide +kernel)).trans ((atK_keep m c main_arg1 (by decide +kernel) (by decide +kernel) (by decide +kernel) (by decide +kernel) (by decide +kernel) (by decide +kernel) (by decide +kernel) (by decide +kernel) 2048).trans (entry_arg1 m c))
theorem final_arg1 (c : Dev nD) : finalContents condOps preI bodyI postI 2048 m c (Proc.devRef .tc main_arg1) = m ((c.tc : Thread nD τ).loc main_arg1) := by
  unfold finalContents
  simp only [postI, afterL_cons, afterL_nil]
  rw [after_of_writes_sub hostOps0_9 _ hostOps0_9_writes (by decide +kernel), after_of_writes_sub hostOps0_8 _ hostOps0_8_writes (by decide +kernel), after_of_writes_sub hostOps0_7 _ hostOps0_7_writes (by decide +kernel)]
  exact exit_arg1 m c
theorem entry_arg2 (c : Dev nD) : entryContents preI m c (Proc.devRef .tc main_arg2) = m ((c.tc : Thread nD τ).loc main_arg2) :=
  pre_keep (launchContents m c) main_arg2 (by decide +kernel) (by decide +kernel) (by decide +kernel) (by decide +kernel) (by decide +kernel) (by decide +kernel) (by decide +kernel)
theorem exit_arg2 (c : Dev nD) : after condOps (atK m 2048 c) (Proc.devRef .tc main_arg2) = m ((c.tc : Thread nD τ).loc main_arg2) :=
  (after_of_writes_sub condOps _ condOps_writes (by decide +kernel)).trans ((atK_keep m c main_arg2 (by decide +kernel) (by decide +kernel) (by decide +kernel) (by decide +kernel) (by decide +kernel) (by decide +kernel) (by decide +kernel) (by decide +kernel) 2048).trans (entry_arg2 m c))
theorem final_arg2 (c : Dev nD) : finalContents condOps preI bodyI postI 2048 m c (Proc.devRef .tc main_arg2) = m ((c.tc : Thread nD τ).loc main_arg2) := by
  unfold finalContents
  simp only [postI, afterL_cons, afterL_nil]
  rw [after_of_writes_sub hostOps0_9 _ hostOps0_9_writes (by decide +kernel), after_of_writes_sub hostOps0_8 _ hostOps0_8_writes (by decide +kernel), after_of_writes_sub hostOps0_7 _ hostOps0_7_writes (by decide +kernel)]
  exact exit_arg2 m c
theorem entry_arg3 (c : Dev nD) : entryContents preI m c (Proc.devRef .tc main_arg3) = m ((c.tc : Thread nD τ).loc main_arg3) :=
  pre_keep (launchContents m c) main_arg3 (by decide +kernel) (by decide +kernel) (by decide +kernel) (by decide +kernel) (by decide +kernel) (by decide +kernel) (by decide +kernel)
theorem exit_arg3 (c : Dev nD) : after condOps (atK m 2048 c) (Proc.devRef .tc main_arg3) = m ((c.tc : Thread nD τ).loc main_arg3) :=
  (after_of_writes_sub condOps _ condOps_writes (by decide +kernel)).trans ((atK_keep m c main_arg3 (by decide +kernel) (by decide +kernel) (by decide +kernel) (by decide +kernel) (by decide +kernel) (by decide +kernel) (by decide +kernel) (by decide +kernel) 2048).trans (entry_arg3 m c))
theorem final_arg3 (c : Dev nD) : finalContents condOps preI bodyI postI 2048 m c (Proc.devRef .tc main_arg3) = m ((c.tc : Thread nD τ).loc main_arg3) := by
  unfold finalContents
  simp only [postI, afterL_cons, afterL_nil]
  rw [after_of_writes_sub hostOps0_9 _ hostOps0_9_writes (by decide +kernel), after_of_writes_sub hostOps0_8 _ hostOps0_8_writes (by decide +kernel), after_of_writes_sub hostOps0_7 _ hostOps0_7_writes (by decide +kernel)]
  exact exit_arg3 m c
theorem entry_arg4 (c : Dev nD) : entryContents preI m c (Proc.devRef .tc main_arg4) = m ((c.tc : Thread nD τ).loc main_arg4) :=
  pre_keep (launchContents m c) main_arg4 (by decide +kernel) (by decide +kernel) (by decide +kernel) (by decide +kernel) (by decide +kernel) (by decide +kernel) (by decide +kernel)
theorem exit_arg4 (c : Dev nD) : after condOps (atK m 2048 c) (Proc.devRef .tc main_arg4) = m ((c.tc : Thread nD τ).loc main_arg4) :=
  (after_of_writes_sub condOps _ condOps_writes (by decide +kernel)).trans ((atK_keep m c main_arg4 (by decide +kernel) (by decide +kernel) (by decide +kernel) (by decide +kernel) (by decide +kernel) (by decide +kernel) (by decide +kernel) (by decide +kernel) 2048).trans (entry_arg4 m c))
theorem final_arg4 (c : Dev nD) : finalContents condOps preI bodyI postI 2048 m c (Proc.devRef .tc main_arg4) = m ((c.tc : Thread nD τ).loc main_arg4) := by
  unfold finalContents
  simp only [postI, afterL_cons, afterL_nil]
  rw [after_of_writes_sub hostOps0_9 _ hostOps0_9_writes (by decide +kernel), after_of_writes_sub hostOps0_8 _ hostOps0_8_writes (by decide +kernel), after_of_writes_sub hostOps0_7 _ hostOps0_7_writes (by decide +kernel)]
  exact exit_arg4 m c
theorem entry_arg5 (c : Dev nD) : entryContents preI m c (Proc.devRef .tc main_arg5) = m ((c.tc : Thread nD τ).loc main_arg5) :=
  pre_keep (launchContents m c) main_arg5 (by decide +kernel) (by decide +kernel) (by decide +kernel) (by decide +kernel) (by decide +kernel) (by decide +kernel) (by decide +kernel)
theorem exit_arg5 (c : Dev nD) : after condOps (atK m 2048 c) (Proc.devRef .tc main_arg5) = m ((c.tc : Thread nD τ).loc main_arg5) :=
  (after_of_writes_sub condOps _ condOps_writes (by decide +kernel)).trans ((atK_keep m c main_arg5 (by decide +kernel) (by decide +kernel) (by decide +kernel) (by decide +kernel) (by decide +kernel) (by decide +kernel) (by decide +kernel) (by decide +kernel) 2048).trans (entry_arg5 m c))
theorem final_arg5 (c : Dev nD) : finalContents condOps preI bodyI postI 2048 m c (Proc.devRef .tc main_arg5) = m ((c.tc : Thread nD τ).loc main_arg5) := by
  unfold finalContents
  simp only [postI, afterL_cons, afterL_nil]
  rw [after_of_writes_sub hostOps0_9 _ hostOps0_9_writes (by decide +kernel), after_of_writes_sub hostOps0_8 _ hostOps0_8_writes (by decide +kernel), after_of_writes_sub hostOps0_7 _ hostOps0_7_writes (by decide +kernel)]
  exact exit_arg5 m c
theorem entry_arg6 (c : Dev nD) : entryContents preI m c (Proc.devRef .tc main_arg6) = m ((c.tc : Thread nD τ).loc main_arg6) :=
  pre_keep (launchContents m c) main_arg6 (by decide +kernel) (by decide +kernel) (by decide +kernel) (by decide +kernel) (by decide +kernel) (by decide +kernel) (by decide +kernel)
theorem exit_arg6 (c : Dev nD) : after condOps (atK m 2048 c) (Proc.devRef .tc main_arg6) = m ((c.tc : Thread nD τ).loc main_arg6) :=
  (after_of_writes_sub condOps _ condOps_writes (by decide +kernel)).trans ((atK_keep m c main_arg6 (by decide +kernel) (by decide +kernel) (by decide +kernel) (by decide +kernel) (by decide +kernel) (by decide +kernel) (by decide +kernel) (by decide +kernel) 2048).trans (entry_arg6 m c))
theorem final_arg6 (c : Dev nD) : finalContents condOps preI bodyI postI 2048 m c (Proc.devRef .tc main_arg6) = m ((c.tc : Thread nD τ).loc main_arg6) := by
  unfold finalContents
  simp only [postI, afterL_cons, afterL_nil]
  rw [after_of_writes_sub hostOps0_9 _ hostOps0_9_writes (by decide +kernel), after_of_writes_sub hostOps0_8 _ hostOps0_8_writes (by decide +kernel), after_of_writes_sub hostOps0_7 _ hostOps0_7_writes (by decide +kernel)]
  exact exit_arg6 m c
theorem entry_arg7 (c : Dev nD) : entryContents preI m c (Proc.devRef .tc main_arg7) = m ((c.tc : Thread nD τ).loc main_arg7) :=
  pre_keep (launchContents m c) main_arg7 (by decide +kernel) (by decide +kernel) (by decide +kernel) (by decide +kernel) (by decide +kernel) (by decide +kernel) (by decide +kernel)
theorem exit_arg7 (c : Dev nD) : after condOps (atK m 2048 c) (Proc.devRef .tc main_arg7) = m ((c.tc : Thread nD τ).loc main_arg7) :=
  (after_of_writes_sub condOps _ condOps_writes (by decide +kernel)).trans ((atK_keep m c main_arg7 (by decide +kernel) (by decide +kernel) (by decide +kernel) (by decide +kernel) (by decide +kernel) (by decide +kernel) (by decide +kernel) (by decide +kernel) 2048).trans (entry_arg7 m c))
theorem final_arg7 (c : Dev nD) : finalContents condOps preI bodyI postI 2048 m c (Proc.devRef .tc main_arg7) = m ((c.tc : Thread nD τ).loc main_arg7) := by
  unfold finalContents
  simp only [postI, afterL_cons, afterL_nil]
  rw [after_of_writes_sub hostOps0_9 _ hostOps0_9_writes (by decide +kernel), after_of_writes_sub hostOps0_8 _ hostOps0_8_writes (by decide +kernel), after_of_writes_sub hostOps0_7 _ hostOps0_7_writes (by decide +kernel)]
  exact exit_arg7 m c
theorem entry_arg8 (c : Dev nD) : entryContents preI m c (Proc.devRef .tc main_arg8) = m ((c.tc : Thread nD τ).loc main_arg8) :=
  pre_keep (launchContents m c) main_arg8 (by decide +kernel) (by decide +kernel) (by decide +kernel) (by decide +kernel) (by decide +kernel) (by decide +kernel) (by decide +kernel)
theorem exit_arg8 (c : Dev nD) : after condOps (atK m 2048 c) (Proc.devRef .tc main_arg8) = m ((c.tc : Thread nD τ).loc main_arg8) :=
  (after_of_writes_sub condOps _ condOps_writes (by decide +kernel)).trans ((atK_keep m c main_arg8 (by decide +kernel) (by decide +kernel) (by decide +kernel) (by decide +kernel) (by decide +kernel) (by decide +kernel) (by decide +kernel) (by decide +kernel) 2048).trans (entry_arg8 m c))
theorem final_arg8 (c : Dev nD) : finalContents condOps preI bodyI postI 2048 m c (Proc.devRef .tc main_arg8) = m ((c.tc : Thread nD τ).loc main_arg8) := by
  unfold finalContents
  simp only [postI, afterL_cons, afterL_nil]
  rw [after_of_writes_sub hostOps0_9 _ hostOps0_9_writes (by decide +kernel), after_of_writes_sub hostOps0_8 _ hostOps0_8_writes (by decide +kernel), after_of_writes_sub hostOps0_7 _ hostOps0_7_writes (by decide +kernel)]
  exact exit_arg8 m c
theorem entry_arg9 (c : Dev nD) : entryContents preI m c (Proc.devRef .tc main_arg9) = m ((c.tc : Thread nD τ).loc main_arg9) :=
  pre_keep (launchContents m c) main_arg9 (by decide +kernel) (by decide +kernel) (by decide +kernel) (by decide +kernel) (by decide +kernel) (by decide +kernel) (by decide +kernel)
theorem exit_arg9 (c : Dev nD) : after condOps (atK m 2048 c) (Proc.devRef .tc main_arg9) = m ((c.tc : Thread nD τ).loc main_arg9) :=
  (after_of_writes_sub condOps _ condOps_writes (by decide +kernel)).trans ((atK_keep m c main_arg9 (by decide +kernel) (by decide +kernel) (by decide +kernel) (by decide +kernel) (by decide +kernel) (by decide +kernel) (by decide +kernel) (by decide +kernel) 2048).trans (entry_arg9 m c))
theorem final_arg9 (c : Dev nD) : finalContents condOps preI bodyI postI 2048 m c (Proc.devRef .tc main_arg9) = m ((c.tc : Thread nD τ).loc main_arg9) := by
  unfold finalContents
  simp only [postI, afterL_cons, afterL_nil]
  rw [after_of_writes_sub hostOps0_9 _ hostOps0_9_writes (by decide +kernel), after_of_writes_sub hostOps0_8 _ hostOps0_8_writes (by decide +kernel), after_of_writes_sub hostOps0_7 _ hostOps0_7_writes (by decide +kernel)]
  exact exit_arg9 m c
theorem entry_arg10 (c : Dev nD) : entryContents preI m c (Proc.devRef .tc main_arg10) = m ((c.tc : Thread nD τ).loc main_arg10) :=
  pre_keep (launchContents m c) main_arg10 (by decide +kernel) (by decide +kernel) (by decide +kernel) (by decide +kernel) (by decide +kernel) (by decide +kernel) (by decide +kernel)
theorem exit_arg10 (c : Dev nD) : after condOps (atK m 2048 c) (Proc.devRef .tc main_arg10) = m ((c.tc : Thread nD τ).loc main_arg10) :=
  (after_of_writes_sub condOps _ condOps_writes (by decide +kernel)).trans ((atK_keep m c main_arg10 (by decide +kernel) (by decide +kernel) (by decide +kernel) (by decide +kernel) (by decide +kernel) (by decide +kernel) (by decide +kernel) (by decide +kernel) 2048).trans (entry_arg10 m c))
theorem final_arg10 (c : Dev nD) : finalContents condOps preI bodyI postI 2048 m c (Proc.devRef .tc main_arg10) = m ((c.tc : Thread nD τ).loc main_arg10) := by
  unfold finalContents
  simp only [postI, afterL_cons, afterL_nil]
  rw [after_of_writes_sub hostOps0_9 _ hostOps0_9_writes (by decide +kernel), after_of_writes_sub hostOps0_8 _ hostOps0_8_writes (by decide +kernel), after_of_writes_sub hostOps0_7 _ hostOps0_7_writes (by decide +kernel)]
  exact exit_arg10 m c

/-- The frame. -/
theorem frame : Cert.quiescent_LayerRefIdeal := by
  intro m g _
  refine (θ_run _ _ _).mono (fun r h => ⟨fun c => ⟨(h c main_arg0 (by decide)).trans (final_arg0 m c), (h c main_arg1 (by decide)).trans (final_arg1 m c), (h c main_arg2 (by decide)).trans (final_arg2 m c), (h c main_arg3 (by decide)).trans (final_arg3 m c), (h c main_arg4 (by decide)).trans (final_arg4 m c), (h c main_arg5 (by decide)).trans (final_arg5 m c), (h c main_arg6 (by decide)).trans (final_arg6 m c), (h c main_arg7 (by decide)).trans (final_arg7 m c), (h c main_arg8 (by decide)).trans (final_arg8 m c), (h c main_arg9 (by decide)).trans (final_arg9 m c), (h c main_arg10 (by decide)).trans (final_arg10 m c)⟩, sem_eq_zero_of_no_sems (by decide) _⟩) (run_fold m g)

end Cert.LayerRefIdeal.Body

end
-- ==== Proof.LayerMath.lean ====
/- One Mamba layer over the extended reals, row by row: the formulas both the kernel and the reference compute. Rows are
   counted by natural numbers. -/
module

public import Idealize.ShloMosaic.Lib.Pointwise

@[expose] public section

noncomputable section

namespace Cert.LayerMath

open Idealize.ShloMosaic

/-- The layer's arguments at coordinates. -/
structure In where
  x : ℕ → Fin 768 → EReal
  nw : Fin 768 → EReal
  iw : Fin 3072 → Fin 768 → EReal
  cw : Fin 1536 → Fin 4 → EReal
  cb : Fin 1536 → EReal
  xp : Fin 80 → Fin 1536 → EReal
  dw : Fin 1536 → Fin 48 → EReal
  db : Fin 1536 → EReal
  al : Fin 1536 → Fin 16 → EReal
  dp : Fin 1536 → EReal
  ow : Fin 768 → Fin 1536 → EReal

variable (I : In)

/-- The normalised row, -/
def xn (n : ℕ) (q : Fin 768) : EReal :=
  I.x n q * Ideal.rsqrt (Ideal.div (∑ q : Fin 768, I.x n q * I.x n q) (Ideal.ofBits .f32 0x44400000#32) + Ideal.ofBits .f32 0x3727C5AC#32) * I.nw q
/-- its two projections, -/
def xr (n : ℕ) (d : Fin 1536) : EReal := ∑ q : Fin 768, xn I n q * I.iw ⟨d.val, by omega⟩ q
def zz (n : ℕ) (d : Fin 1536) : EReal := ∑ q : Fin 768, xn I n q * I.iw ⟨1536 + d.val, by omega⟩ q
/-- the row three before and on, zero before the first, -/
def sh (n k : ℕ) (d : Fin 1536) : EReal := if n + k < 3 then 0 else xr I (n + k - 3) d
/-- the convolution over four rows, -/
def cv (n : ℕ) (d : Fin 1536) : EReal :=
  I.cb d + sh I n 0 d * I.cw d 0 + sh I n 1 d * I.cw d 1 + sh I n 2 d * I.cw d 2 + sh I n 3 d * I.cw d 3
/-- gated by itself, -/
def xi (n : ℕ) (d : Fin 1536) : EReal := cv I n d * Ideal.logistic (cv I n d)
/-- projected to the step, the input and the output weights, -/
def xd (n : ℕ) (e : Fin 80) : EReal := ∑ d : Fin 1536, xi I n d * I.xp e d
def pa (n : ℕ) (d : Fin 1536) : EReal := ∑ k : Fin 48, xd I n ⟨k.val, by omega⟩ * I.dw d k + I.db d
def sp (v : EReal) : EReal := max v 0 + Ideal.log1p (Ideal.exp (0 - FloatOps.absf (F := Ideal) (φ := .f32) v))
def dt (n : ℕ) (d : Fin 1536) : EReal := sp (pa I n d)
def bb (n : ℕ) (s : Fin 16) : EReal := xd I n ⟨48 + s.val, by omega⟩
def cc (n : ℕ) (s : Fin 16) : EReal := xd I n ⟨64 + s.val, by omega⟩
/-- the state before row `n`, -/
def H : ℕ → Fin 16 → Fin 1536 → EReal
  | 0, _, _ => 0
  | n + 1, s, d => Ideal.exp (dt I n d * (0 - Ideal.exp (I.al d s))) * H n s d + dt I n d * xi I n d * bb I n s
/-- its output, -/
def y (n : ℕ) (d : Fin 1536) : EReal := ∑ s : Fin 16, H I (n + 1) s d * cc I n s
/-- and the layer's row. -/
def out (n : ℕ) (q : Fin 768) : EReal :=
  I.x n q + ∑ d : Fin 1536, (y I n d + xi I n d * I.dp d) * (zz I n d * Ideal.logistic (zz I n d)) * I.ow q d

/-- A sum over `m` places that vanishes from place `k` on. -/
theorem sum_pad {k m : ℕ} (h : k ≤ m) (f : Fin m → EReal) (g : Fin k → EReal) (hf : ∀ i : Fin k, f ⟨i.val, by omega⟩ = g i)
    (h0 : ∀ i : Fin m, k ≤ i.val → f i = 0) : ∑ i, f i = ∑ i, g i := by
  obtain ⟨r, rfl⟩ := Nat.exists_eq_add_of_le h
  rw [Fin.sum_univ_add, Finset.sum_eq_zero (s := Finset.univ) (f := fun i : Fin r => f (Fin.natAdd k i)) (fun i _ => h0 _ (by simp)), add_zero]
  exact Finset.sum_congr rfl fun i _ => hf i

theorem sitofp_zero : (FloatOps.sitofp (F := Ideal) FTy.f32 0#32 : EReal) = 0 := by
  show (((0#32 : BitVec 32).toInt : ℝ) : EReal) = 0
  simp

end Cert.LayerMath

end
-- ==== Proof.LayerIdealVals.lean ====
/- What the layer kernel's payloads are at each place, over the extended reals. -/
module

public import proofs.«01_k».proof.Proof.LayerIdealChunk
public import proofs.«01_k».proof.Proof.LayerMath

@[expose] public section

set_option maxRecDepth 16384

noncomputable section

namespace Cert.LayerIdeal.Vals

open Cert.LayerIdeal Cert.LayerIdeal.Gen Cert.LayerIdeal.Body
open Idealize.ShloMosaic Idealize.ShloMosaic.TcCoe

/-- The normalised row of a block. -/
def nrm (X : FVec Ideal S256x768 .f32) (N : FVec Ideal S1x768 .f32) (r : Fin 256) (q : Fin 768) : EReal :=
  X (ix2 r q) * Ideal.rsqrt (Ideal.div (∑ q : Fin 768, X (ix2 r q) * X (ix2 r q)) (Ideal.ofBits .f32 0x44400000#32) + Ideal.ofBits .f32 0x3727C5AC#32) * N (ix2 0 q)

theorem pay21_apply (X : FVec Ideal S256x768 .f32) (N : FVec Ideal S1x768 .f32) (W : FVec Ideal S3072x768 .f32) (r : Fin 256) (d : Fin 1536) :
    k0_pay21 (F := Ideal) X N W (ix2 r d) = ∑ q : Fin 768, nrm X N r q * W (ix2 ⟨1536 + d.val, by omega⟩ q) := by
  unfold nrm
  pointwise [k0_pay21, k0_pay20, k0_pay19]

theorem pay25_apply (X : FVec Ideal S256x768 .f32) (N : FVec Ideal S1x768 .f32) (W : FVec Ideal S3072x768 .f32) (r : Fin 256) (d : Fin 1536) :
    k0_pay25 (F := Ideal) X N W (ix2 r d) = ∑ q : Fin 768, nrm X N r q * W (ix2 ⟨d.val, by omega⟩ q) := by
  unfold nrm
  pointwise [k0_pay25, k0_pay20, k0_pay19]

theorem pay26_apply (X : FVec Ideal S256x768 .f32) (N : FVec Ideal S1x768 .f32) (W : FVec Ideal S3072x768 .f32) (r : Fin 8) (d : Fin 1536) :
    k0_pay26 (F := Ideal) X N W (ix2 r d) = ∑ q : Fin 768, nrm X N ⟨248 + r.val, by omega⟩ q * W (ix2 ⟨d.val, by omega⟩ q) := by
  unfold nrm
  pointwise [k0_pay26, k0_pay20, k0_pay19]

/-- A row's convolution. -/
def cnv (a : FVec Ideal S4x1536 .f32) (b : FVec Ideal S1x1536 .f32) (A B C D : FVec Ideal S256x1536 .f32) (r : Fin 256) (d : Fin 1536) : EReal :=
  b (ix2 0 d) + A (ix2 r d) * a (ix2 0 d) + B (ix2 r d) * a (ix2 1 d) + C (ix2 r d) * a (ix2 2 d) + D (ix2 r d) * a (ix2 3 d)

variable (a : FVec Ideal S4x1536 .f32) (b : FVec Ideal S1x1536 .f32) (A B C D : FVec Ideal S256x1536 .f32) (xp : FVec Ideal S128x1536 .f32)
  (dw : FVec Ideal S1536x128 .f32) (db : FVec Ideal S1x1536 .f32)

theorem pay27_apply (r : Fin 256) (d : Fin 1536) :
    k0_pay27 (F := Ideal) a b A B C D (ix2 r d) = cnv a b A B C D r d * Ideal.logistic (cnv a b A B C D r d) := by
  unfold cnv
  pointwise [k0_pay27]

theorem pay28_apply (r : Fin 256) (e : Fin 128) :
    k0_pay28 (F := Ideal) a b A B C D xp (ix2 r e) = ∑ d : Fin 1536, (cnv a b A B C D r d * Ideal.logistic (cnv a b A B C D r d)) * xp (ix2 e d) := by
  simp only [← pay27_apply]
  pointwise [k0_pay28]

theorem pay29_apply (r : Fin 256) (d : Fin 1536) :
    k0_pay29 (F := Ideal) a b A B C D xp dw db (ix2 r d) = ∑ e : Fin 128, k0_pay28 (F := Ideal) a b A B C D xp (ix2 r e) * dw (ix2 d e) + db (ix2 0 d) := by
  pointwise [k0_pay29]

theorem pay30_apply (r : Fin 256) (d : Fin 1536) :
    k0_pay30 (F := Ideal) a b A B C D xp dw db (ix2 r d) = max (∑ e : Fin 128, k0_pay28 (F := Ideal) a b A B C D xp (ix2 r e) * dw (ix2 d e) + db (ix2 0 d)) 0 := by
  pointwise [k0_pay30, k0_pay29]

theorem pay31_apply (r : Fin 256) (d : Fin 1536) :
    k0_pay31 (F := Ideal) a b A B C D xp dw db (ix2 r d) = ∑ e : Fin 128, k0_pay28 (F := Ideal) a b A B C D xp (ix2 r e) * dw (ix2 d e) + db (ix2 0 d) := by
  pointwise [k0_pay31, k0_pay29]

theorem pay35_apply (r : Fin 256) (d : Fin 1536) :
    k0_pay35 (F := Ideal) A (FloatOps.ofBits FTy.f32 0#32) B C (ix2 r d) = B (ix2 r d) + Ideal.log1p (Ideal.exp (0 - FloatOps.absf (F := Ideal) (φ := .f32) (C (ix2 r d)))) := by
  pointwise [k0_pay35, k0_pay32]
  simp

theorem pay36_apply (r : Fin 256) (d : Fin 1536) :
    k0_pay36 (F := Ideal) D A (FloatOps.ofBits FTy.f32 0#32) B C (ix2 r d) = (B (ix2 r d) + Ideal.log1p (Ideal.exp (0 - FloatOps.absf (F := Ideal) (φ := .f32) (C (ix2 r d))))) * D (ix2 r d) := by
  pointwise [k0_pay36, k0_pay35, k0_pay32]
  simp

theorem pay33_apply (v : FVec Ideal S256x128 .f32) (r : Fin 256) (s : Fin 16) : k0_pay33 (F := Ideal) v (ix2 r s) = v (ix2 r ⟨48 + s.val, by omega⟩) := by
  pointwise [k0_pay33]
theorem pay34_apply (v : FVec Ideal S256x128 .f32) (r : Fin 256) (s : Fin 16) : k0_pay34 (F := Ideal) v (ix2 r s) = v (ix2 r ⟨64 + s.val, by omega⟩) := by
  pointwise [k0_pay34]
theorem pay22_apply (r : Fin 8) (d : Fin 1536) : (k0_pay22 (F := Ideal) (ix2 r d) : EReal) = (0 : EReal) := by
  pointwise [k0_pay22]
theorem pay23_apply (r : Fin 16) (d : Fin 1536) : (k0_pay23 (F := Ideal) (ix2 r d) : EReal) = (0 : EReal) := by
  pointwise [k0_pay23]
theorem pay41_apply (v : FVec Ideal S16x1536 .f32) (r : Fin 16) (d : Fin 1536) : k0_pay41 (F := Ideal) v (ix2 r d) = v (ix2 r d) := by
  pointwise [k0_pay41]

theorem pay1_apply (X : FVec Ideal S256x768 .f32) (z x y : FVec Ideal S256x1536 .f32) (D : FVec Ideal S1x1536 .f32) (O : FVec Ideal S768x1536 .f32) (r : Fin 256) (q : Fin 768) :
    k0_pay1 (F := Ideal) X z x y D O (ix2 r q)
      = X (ix2 r q) + ∑ d : Fin 1536, (y (ix2 r d) + x (ix2 r d) * D (ix2 0 d)) * (z (ix2 r d) * Ideal.logistic (z (ix2 r d))) * O (ix2 q d) := by
  pointwise [k0_pay1]

/-! ## The recurrence's trips -/

/-- One step of the recurrence. -/
def stp (al : FVec Ideal S16x1536 .f32) (T X : FVec Ideal S8x1536 .f32) (B : FVec Ideal S8x16 .f32) (j : Fin 8) (h : Fin 16 → Fin 1536 → EReal) (s : Fin 16) (d : Fin 1536) : EReal :=
  Ideal.exp (T (ix2 j d) * (0 - Ideal.exp (al (ix2 s d)))) * h s d + X (ix2 j d) * B (ix2 j s)

section
variable (al acc : FVec Ideal S16x1536 .f32) (T X : FVec Ideal S8x1536 .f32) (Bt Ct : FVec Ideal S8x16 .f32)

theorem trip_pay (s : Fin 16) (d : Fin 1536) :
    k0_pay39 (F := Ideal) al T X (k0_pay2 Bt) (k0_pay17 (k0_pay37 al) T X (k0_pay2 Bt) (k0_pay8 (k0_pay37 al) acc T X Bt) (k0_pay9 Bt) (k0_pay10 X)) (ix2 s d)
      = stp al T X Bt 7 (stp al T X Bt 6 (stp al T X Bt 5 (stp al T X Bt 4 (stp al T X Bt 3 (stp al T X Bt 2 (stp al T X Bt 1 (stp al T X Bt 0 (fun s d => acc (ix2 s d))))))))) s d := by
  unfold stp
  pointwise [k0_pay39, k0_pay38, k0_pay37, k0_pay17, k0_pay15, k0_pay13, k0_pay11, k0_pay10, k0_pay9, k0_pay8, k0_pay6, k0_pay4, k0_pay2]

/-- The rows a trip stores. -/
def payY : FVec Ideal S8x1536 .f32 :=
  k0_pay40 (F := Ideal) al T X (k0_pay2 Bt) (k0_pay3 Ct) (k0_pay5 (k0_pay37 al) acc T X Bt Ct) (k0_pay7 (k0_pay37 al) acc T X Bt Ct)
    (k0_pay12 (k0_pay3 Ct) (k0_pay8 (k0_pay37 al) acc T X Bt) (k0_pay9 Bt) (k0_pay10 X))
    (k0_pay14 (k0_pay37 al) T X (k0_pay2 Bt) (k0_pay3 Ct) (k0_pay8 (k0_pay37 al) acc T X Bt) (k0_pay9 Bt) (k0_pay10 X))
    (k0_pay16 (k0_pay37 al) T X (k0_pay2 Bt) (k0_pay3 Ct) (k0_pay8 (k0_pay37 al) acc T X Bt) (k0_pay9 Bt) (k0_pay10 X))
    (k0_pay17 (k0_pay37 al) T X (k0_pay2 Bt) (k0_pay8 (k0_pay37 al) acc T X Bt) (k0_pay9 Bt) (k0_pay10 X))
    (k0_pay18 (k0_pay37 al) T X (k0_pay2 Bt) (k0_pay3 Ct) (k0_pay8 (k0_pay37 al) acc T X Bt) (k0_pay9 Bt) (k0_pay10 X))

/-- The state after the first `n` steps of a trip. -/
def stps : ℕ → Fin 16 → Fin 1536 → EReal
  | 0 => fun s d => acc (ix2 s d)
  | n + 1 => if h : n < 8 then stp al T X Bt ⟨n, h⟩ (stps n) else stps n

theorem payY_0 (d : Fin 1536) : payY al acc T X Bt Ct (ix2 0 d) = ∑ s : Fin 16, stps al acc T X Bt 1 s d * Ct (ix2 0 s) := by
  show _ = ∑ s : Fin 16, (stp al T X Bt 0 (fun s d => acc (ix2 s d))) s d * Ct (ix2 0 s)
  unfold payY stp
  pointwise [k0_pay40, k0_pay39, k0_pay38, k0_pay37, k0_pay18, k0_pay17, k0_pay16, k0_pay15, k0_pay14, k0_pay13, k0_pay12, k0_pay11, k0_pay10, k0_pay9, k0_pay8, k0_pay7, k0_pay6, k0_pay5, k0_pay4, k0_pay3, k0_pay2]

theorem payY_1 (d : Fin 1536) : payY al acc T X Bt Ct (ix2 1 d) = ∑ s : Fin 16, stps al acc T X Bt 2 s d * Ct (ix2 1 s) := by
  show _ = ∑ s : Fin 16, (stp al T X Bt 1 (stp al T X Bt 0 (fun s d => acc (ix2 s d)))) s d * Ct (ix2 1 s)
  unfold payY stp
  pointwise [k0_pay40, k0_pay39, k0_pay38, k0_pay37, k0_pay18, k0_pay17, k0_pay16, k0_pay15, k0_pay14, k0_pay13, k0_pay12, k0_pay11, k0_pay10, k0_pay9, k0_pay8, k0_pay7, k0_pay6, k0_pay5, k0_pay4, k0_pay3, k0_pay2]

theorem payY_2 (d : Fin 1536) : payY al acc T X Bt Ct (ix2 2 d) = ∑ s : Fin 16, stps al acc T X Bt 3 s d * Ct (ix2 2 s) := by
  show _ = ∑ s : Fin 16, (stp al T X Bt 2 (stp al T X Bt 1 (stp al T X Bt 0 (fun s d => acc (ix2 s d))))) s d * Ct (ix2 2 s)
  unfold payY stp
  pointwise [k0_pay40, k0_pay39, k0_pay38, k0_pay37, k0_pay18, k0_pay17, k0_pay16, k0_pay15, k0_pay14, k0_pay13, k0_pay12, k0_pay11, k0_pay10, k0_pay9, k0_pay8, k0_pay7, k0_pay6, k0_pay5, k0_pay4, k0_pay3, k0_pay2]

theorem payY_3 (d : Fin 1536) : payY al acc T X Bt Ct (ix2 3 d) = ∑ s : Fin 16, stps al acc T X Bt 4 s d * Ct (ix2 3 s) := by
  show _ = ∑ s : Fin 16, (stp al T X Bt 3 (stp al T X Bt 2 (stp al T X Bt 1 (stp al T X Bt 0 (fun s d => acc (ix2 s d)))))) s d * Ct (ix2 3 s)
  unfold payY stp
  pointwise [k0_pay40, k0_pay39, k0_pay38, k0_pay37, k0_pay18, k0_pay17, k0_pay16, k0_pay15, k0_pay14, k0_pay13, k0_pay12, k0_pay11, k0_pay10, k0_pay9, k0_pay8, k0_pay7, k0_pay6, k0_pay5, k0_pay4, k0_pay3, k0_pay2]

theorem payY_4 (d : Fin 1536) : payY al acc T X Bt Ct (ix2 4 d) = ∑ s : Fin 16, stps al acc T X Bt 5 s d * Ct (ix2 4 s) := by
  show _ = ∑ s : Fin 16, (stp al T X Bt 4 (stp al T X Bt 3 (stp al T X Bt 2 (stp al T X Bt 1 (stp al T X Bt 0 (fun s d => acc (ix2 s d))))))) s d * Ct (ix2 4 s)
  unfold payY stp
  pointwise [k0_pay40, k0_pay39, k0_pay38, k0_pay37, k0_pay18, k0_pay17, k0_pay16, k0_pay15, k0_pay14, k0_pay13, k0_pay12, k0_pay11, k0_pay10, k0_pay9, k0_pay8, k0_pay7, k0_pay6, k0_pay5, k0_pay4, k0_pay3, k0_pay2]

theorem payY_5 (d : Fin 1536) : payY al acc T X Bt Ct (ix2 5 d) = ∑ s : Fin 16, stps al acc T X Bt 6 s d * Ct (ix2 5 s) := by
  show _ = ∑ s : Fin 16, (stp al T X Bt 5 (stp al T X Bt 4 (stp al T X Bt 3 (stp al T X Bt 2 (stp al T X Bt 1 (stp al T X Bt 0 (fun s d => acc (ix2 s d)))))))) s d * Ct (ix2 5 s)
  unfold payY stp
  pointwise [k0_pay40, k0_pay39, k0_pay38, k0_pay37, k0_pay18, k0_pay17, k0_pay16, k0_pay15, k0_pay14, k0_pay13, k0_pay12, k0_pay11, k0_pay10, k0_pay9, k0_pay8, k0_pay7, k0_pay6, k0_pay5, k0_pay4, k0_pay3, k0_pay2]

theorem payY_6 (d : Fin 1536) : payY al acc T X Bt Ct (ix2 6 d) = ∑ s : Fin 16, stps al acc T X Bt 7 s d * Ct (ix2 6 s) := by
  show _ = ∑ s : Fin 16, (stp al T X Bt 6 (stp al T X Bt 5 (stp al T X Bt 4 (stp al T X Bt 3 (stp al T X Bt 2 (stp al T X Bt 1 (stp al T X Bt 0 (fun s d => acc (ix2 s d))))))))) s d * Ct (ix2 6 s)
  unfold payY stp
  pointwise [k0_pay40, k0_pay39, k0_pay38, k0_pay37, k0_pay18, k0_pay17, k0_pay16, k0_pay15, k0_pay14, k0_pay13, k0_pay12, k0_pay11, k0_pay10, k0_pay9, k0_pay8, k0_pay7, k0_pay6, k0_pay5, k0_pay4, k0_pay3, k0_pay2]

theorem payY_7 (d : Fin 1536) : payY al acc T X Bt Ct (ix2 7 d) = ∑ s : Fin 16, stps al acc T X Bt 8 s d * Ct (ix2 7 s) := by
  show _ = ∑ s : Fin 16, (stp al T X Bt 7 (stp al T X Bt 6 (stp al T X Bt 5 (stp al T X Bt 4 (stp al T X Bt 3 (stp al T X Bt 2 (stp al T X Bt 1 (stp al T X Bt 0 (fun s d => acc (ix2 s d)))))))))) s d * Ct (ix2 7 s)
  unfold payY stp
  pointwise [k0_pay40, k0_pay39, k0_pay38, k0_pay37, k0_pay18, k0_pay17, k0_pay16, k0_pay15, k0_pay14, k0_pay13, k0_pay12, k0_pay11, k0_pay10, k0_pay9, k0_pay8, k0_pay7, k0_pay6, k0_pay5, k0_pay4, k0_pay3, k0_pay2]

theorem payY_apply (j : Fin 8) (d : Fin 1536) : payY al acc T X Bt Ct (ix2 j d) = ∑ s : Fin 16, stps al acc T X Bt (j.val + 1) s d * Ct (ix2 j s) :=
  match j with
  | ⟨0, _⟩ => payY_0 al acc T X Bt Ct d
  | ⟨1, _⟩ => payY_1 al acc T X Bt Ct d
  | ⟨2, _⟩ => payY_2 al acc T X Bt Ct d
  | ⟨3, _⟩ => payY_3 al acc T X Bt Ct d
  | ⟨4, _⟩ => payY_4 al acc T X Bt Ct d
  | ⟨5, _⟩ => payY_5 al acc T X Bt Ct d
  | ⟨6, _⟩ => payY_6 al acc T X Bt Ct d
  | ⟨7, _⟩ => payY_7 al acc T X Bt Ct d

theorem trip_stps (s : Fin 16) (d : Fin 1536) :
    k0_pay39 (F := Ideal) al T X (k0_pay2 Bt) (k0_pay17 (k0_pay37 al) T X (k0_pay2 Bt) (k0_pay8 (k0_pay37 al) acc T X Bt) (k0_pay9 Bt) (k0_pay10 X)) (ix2 s d)
      = stps al acc T X Bt 8 s d := trip_pay al acc T X Bt s d
end

end Cert.LayerIdeal.Vals

end
-- ==== Proof.LayerIdealValue.lean ====
/- What the layer program computes over the extended reals: its blocks, the state and the rows carried between the chunks, the
   output rows. -/
module

public import proofs.«01_k».proof.Proof.LayerIdealFrame
public import proofs.«01_k».proof.Proof.LayerIdealVals

@[expose] public section

set_option maxRecDepth 16384

noncomputable section

namespace Cert.LayerIdeal.Body

open Cert.LayerIdeal Cert.LayerIdeal.Gen Cert.LayerIdeal.Vals Cert.LayerMath
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-! ## The arguments at coordinates -/

abbrev a0 (c : Dev nD) : S2048x768.Idx → EReal := m ((c : Thread nD τ).loc main_arg0)
abbrev a1 (c : Dev nD) : S768.Idx → EReal := m ((c : Thread nD τ).loc main_arg1)
abbrev a2 (c : Dev nD) : S3072x768.Idx → EReal := m ((c : Thread nD τ).loc main_arg2)
abbrev a3 (c : Dev nD) : S1536x4.Idx → EReal := m ((c : Thread nD τ).loc main_arg3)
abbrev a4 (c : Dev nD) : S1536.Idx → EReal := m ((c : Thread nD τ).loc main_arg4)
abbrev a5 (c : Dev nD) : S80x1536.Idx → EReal := m ((c : Thread nD τ).loc main_arg5)
abbrev a6 (c : Dev nD) : S1536x48.Idx → EReal := m ((c : Thread nD τ).loc main_arg6)
abbrev a7 (c : Dev nD) : S1536.Idx → EReal := m ((c : Thread nD τ).loc main_arg7)
abbrev a8 (c : Dev nD) : S1536x16.Idx → EReal := m ((c : Thread nD τ).loc main_arg8)
abbrev a9 (c : Dev nD) : S1536.Idx → EReal := m ((c : Thread nD τ).loc main_arg9)
abbrev a10 (c : Dev nD) : S768x1536.Idx → EReal := m ((c : Thread nD τ).loc main_arg10)

def aIn (c : Dev nD) : In where
  x n q := if h : n < 2048 then a0 m c (ix2 ⟨n, h⟩ q) else 0
  nw q := a1 m c (ix1 q)
  iw e q := a2 m c (ix2 e q)
  cw d k := a3 m c (ix2 d k)
  cb d := a4 m c (ix1 d)
  xp e d := a5 m c (ix2 e d)
  dw d k := a6 m c (ix2 d k)
  db d := a7 m c (ix1 d)
  al d s := a8 m c (ix2 d s)
  dp d := a9 m c (ix1 d)
  ow q d := a10 m c (ix2 q d)

theorem lt8 (t : Fin cfg0.N) : t.val < 8 := lt_of_lt_of_eq t.isLt (show cfg0.N = 8 from N_0)

/-! ## The prepared weights -/

theorem V_main_v0 (c : Dev nD) (e : Fin 128) (d : Fin 1536) : (V m c main_v0 : S128x1536.Idx → EReal) (ix2 e d) = (if h : e.val < 80 then a5 m c (ix2 ⟨e.val, h⟩ d) else 0 : EReal) := by
  show (StableHlo.after (τ := τ) (List.flatten [hostOps0, hostOps0_1, hostOps0_2, hostOps0_3, hostOps0_4]) (fun b => m (c, b)) (Proc.devRef .tc main_v0) : S128x1536.Idx → EReal) (ix2 e d) = _
  simp only [List.flatten_cons, List.flatten_nil, List.append_nil, hostOps0, hostOps0_1, hostOps0_2, hostOps0_3, hostOps0_4, List.cons_append, List.nil_append]
  after_results_simp
  try simp only [StableHlo.TRef.ofBuf, StableHlo.TRef.toBuf, cast_eq, id_eq]
  pointwise
  rw [sitofp_zero]

theorem V_main_v1 (c : Dev nD) (d : Fin 1536) (e : Fin 128) : (V m c main_v1 : S1536x128.Idx → EReal) (ix2 d e) = (if h : e.val < 48 then a6 m c (ix2 d ⟨e.val, h⟩) else 0 : EReal) := by
  show (StableHlo.after (τ := τ) (List.flatten [hostOps0, hostOps0_1, hostOps0_2, hostOps0_3, hostOps0_4]) (fun b => m (c, b)) (Proc.devRef .tc main_v1) : S1536x128.Idx → EReal) (ix2 d e) = _
  simp only [List.flatten_cons, List.flatten_nil, List.append_nil, hostOps0, hostOps0_1, hostOps0_2, hostOps0_3, hostOps0_4, List.cons_append, List.nil_append]
  after_results_simp
  try simp only [StableHlo.TRef.ofBuf, StableHlo.TRef.toBuf, cast_eq, id_eq]
  pointwise
  rw [sitofp_zero]

theorem V_main_v2 (c : Dev nD) (k : Fin 4) (d : Fin 1536) : (V m c main_v2 : S4x1536.Idx → EReal) (ix2 k d) = (a3 m c (ix2 d k) : EReal) := by
  show (StableHlo.after (τ := τ) (List.flatten [hostOps0, hostOps0_1, hostOps0_2, hostOps0_3, hostOps0_4]) (fun b => m (c, b)) (Proc.devRef .tc main_v2) : S4x1536.Idx → EReal) (ix2 k d) = _
  simp only [List.flatten_cons, List.flatten_nil, List.append_nil, hostOps0, hostOps0_1, hostOps0_2, hostOps0_3, hostOps0_4, List.cons_append, List.nil_append]
  after_results_simp
  try simp only [StableHlo.TRef.ofBuf, StableHlo.TRef.toBuf, cast_eq, id_eq]
  pointwise

theorem V_main_v3 (c : Dev nD) (d : Fin 1536) : (V m c main_v3 : S1x1536.Idx → EReal) (ix2 0 d) = (a4 m c (ix1 d) : EReal) := by
  show (StableHlo.after (τ := τ) (List.flatten [hostOps0, hostOps0_1, hostOps0_2, hostOps0_3, hostOps0_4]) (fun b => m (c, b)) (Proc.devRef .tc main_v3) : S1x1536.Idx → EReal) (ix2 0 d) = _
  simp only [List.flatten_cons, List.flatten_nil, List.append_nil, hostOps0, hostOps0_1, hostOps0_2, hostOps0_3, hostOps0_4, List.cons_append, List.nil_append]
  after_results_simp
  try simp only [StableHlo.TRef.ofBuf, StableHlo.TRef.toBuf, cast_eq, id_eq]
  pointwise

theorem V_main_v4 (c : Dev nD) (d : Fin 1536) : (V m c main_v4 : S1x1536.Idx → EReal) (ix2 0 d) = (a7 m c (ix1 d) : EReal) := by
  show (StableHlo.after (τ := τ) (List.flatten [hostOps0, hostOps0_1, hostOps0_2, hostOps0_3, hostOps0_4]) (fun b => m (c, b)) (Proc.devRef .tc main_v4) : S1x1536.Idx → EReal) (ix2 0 d) = _
  simp only [List.flatten_cons, List.flatten_nil, List.append_nil, hostOps0, hostOps0_1, hostOps0_2, hostOps0_3, hostOps0_4, List.cons_append, List.nil_append]
  after_results_simp
  try simp only [StableHlo.TRef.ofBuf, StableHlo.TRef.toBuf, cast_eq, id_eq]
  pointwise

theorem V_main_v5 (c : Dev nD) (s : Fin 16) (d : Fin 1536) : (V m c main_v5 : S16x1536.Idx → EReal) (ix2 s d) = (a8 m c (ix2 d s) : EReal) := by
  show (StableHlo.after (τ := τ) (List.flatten [hostOps0, hostOps0_1, hostOps0_2, hostOps0_3, hostOps0_4]) (fun b => m (c, b)) (Proc.devRef .tc main_v5) : S16x1536.Idx → EReal) (ix2 s d) = _
  simp only [List.flatten_cons, List.flatten_nil, List.append_nil, hostOps0, hostOps0_1, hostOps0_2, hostOps0_3, hostOps0_4, List.cons_append, List.nil_append]
  after_results_simp
  try simp only [StableHlo.TRef.ofBuf, StableHlo.TRef.toBuf, cast_eq, id_eq]
  pointwise

theorem V_main_v6 (c : Dev nD) (d : Fin 1536) : (V m c main_v6 : S1x1536.Idx → EReal) (ix2 0 d) = (a9 m c (ix1 d) : EReal) := by
  show (StableHlo.after (τ := τ) (List.flatten [hostOps0, hostOps0_1, hostOps0_2, hostOps0_3, hostOps0_4]) (fun b => m (c, b)) (Proc.devRef .tc main_v6) : S1x1536.Idx → EReal) (ix2 0 d) = _
  simp only [List.flatten_cons, List.flatten_nil, List.append_nil, hostOps0, hostOps0_1, hostOps0_2, hostOps0_3, hostOps0_4, List.cons_append, List.nil_append]
  after_results_simp
  try simp only [StableHlo.TRef.ofBuf, StableHlo.TRef.toBuf, cast_eq, id_eq]
  pointwise

theorem V_main_v7 (c : Dev nD) (d : Fin 768) : (V m c main_v7 : S1x768.Idx → EReal) (ix2 0 d) = (a1 m c (ix1 d) : EReal) := by
  show (StableHlo.after (τ := τ) (List.flatten [hostOps0, hostOps0_1, hostOps0_2, hostOps0_3, hostOps0_4]) (fun b => m (c, b)) (Proc.devRef .tc main_v7) : S1x768.Idx → EReal) (ix2 0 d) = _
  simp only [List.flatten_cons, List.flatten_nil, List.append_nil, hostOps0, hostOps0_1, hostOps0_2, hostOps0_3, hostOps0_4, List.cons_append, List.nil_append]
  after_results_simp
  try simp only [StableHlo.TRef.ofBuf, StableHlo.TRef.toBuf, cast_eq, id_eq]
  pointwise

/-! ## The blocks -/

theorem B0_apply (c : Dev nD) (t : Fin cfg0.N) (r : Fin 256) (q : Fin 768) : B0 m c t (ix2 r q) = (aIn m c).x (256 * t.val + r.val) q := by
  have ht := lt8 t
  show _ = dite _ _ _
  rw [dif_pos (by omega)]
  unfold B0
  blk_simp [iblk]
  rw [V_main_arg0]
  congr 1
  blk_ext [(by decide +kernel : ∀ t : Fin grid0.N, win0_0.index t = ![t.val, 0])]

theorem B1_apply (c : Dev nD) (t : Fin cfg0.N) (e : Fin 3072) (q : Fin 768) : B1 m c t (ix2 e q) = ((aIn m c).iw e q : EReal) := by
  show _ = (a2 m c (ix2 e q) : EReal)
  unfold B1
  blk_simp [iblk]
  rw [V_main_arg2]
  congr 1
  blk_ext [(by decide +kernel : ∀ t : Fin grid0.N, win0_1.index t = ![0, 0])]

theorem B2_apply (c : Dev nD) (t : Fin cfg0.N) (k : Fin 4) (d : Fin 1536) : B2 m c t (ix2 k d) = ((aIn m c).cw d k : EReal) := by
  show _ = (a3 m c (ix2 d k) : EReal)
  rw [← V_main_v2]
  unfold B2
  blk_simp [iblk]
  congr 1
  blk_ext [(by decide +kernel : ∀ t : Fin grid0.N, win0_2.index t = ![0, 0])]

theorem B3_apply (c : Dev nD) (t : Fin cfg0.N) (d : Fin 1536) : B3 m c t (ix2 0 d) = ((aIn m c).cb d : EReal) := by
  show _ = (a4 m c (ix1 d) : EReal)
  rw [← V_main_v3]
  unfold B3
  blk_simp [iblk]
  congr 1
  blk_ext [(by decide +kernel : ∀ t : Fin grid0.N, win0_3.index t = ![0, 0])]

theorem B4_apply (c : Dev nD) (t : Fin cfg0.N) (e : Fin 128) (d : Fin 1536) : B4 m c t (ix2 e d) = (if h : e.val < 80 then (aIn m c).xp ⟨e.val, h⟩ d else 0 : EReal) := by
  show _ = (if h : e.val < 80 then a5 m c (ix2 ⟨e.val, h⟩ d) else 0 : EReal)
  rw [← V_main_v0]
  unfold B4
  blk_simp [iblk]
  congr 1
  blk_ext [(by decide +kernel : ∀ t : Fin grid0.N, win0_4.index t = ![0, 0])]

theorem B5_apply (c : Dev nD) (t : Fin cfg0.N) (d : Fin 1536) (e : Fin 128) : B5 m c t (ix2 d e) = (if h : e.val < 48 then (aIn m c).dw d ⟨e.val, h⟩ else 0 : EReal) := by
  show _ = (if h : e.val < 48 then a6 m c (ix2 d ⟨e.val, h⟩) else 0 : EReal)
  rw [← V_main_v1]
  unfold B5
  blk_simp [iblk]
  congr 1
  blk_ext [(by decide +kernel : ∀ t : Fin grid0.N, win0_5.index t = ![0, 0])]

theorem B6_apply (c : Dev nD) (t : Fin cfg0.N) (d : Fin 1536) : B6 m c t (ix2 0 d) = ((aIn m c).db d : EReal) := by
  show _ = (a7 m c (ix1 d) : EReal)
  rw [← V_main_v4]
  unfold B6
  blk_simp [iblk]
  congr 1
  blk_ext [(by decide +kernel : ∀ t : Fin grid0.N, win0_6.index t = ![0, 0])]

theorem B7_apply (c : Dev nD) (t : Fin cfg0.N) (s : Fin 16) (d : Fin 1536) : B7 m c t (ix2 s d) = ((aIn m c).al d s : EReal) := by
  show _ = (a8 m c (ix2 d s) : EReal)
  rw [← V_main_v5]
  unfold B7
  blk_simp [iblk]
  congr 1
  blk_ext [(by decide +kernel : ∀ t : Fin grid0.N, win0_7.index t = ![0, 0])]

theorem B8_apply (c : Dev nD) (t : Fin cfg0.N) (d : Fin 1536) : B8 m c t (ix2 0 d) = ((aIn m c).dp d : EReal) := by
  show _ = (a9 m c (ix1 d) : EReal)
  rw [← V_main_v6]
  unfold B8
  blk_simp [iblk]
  congr 1
  blk_ext [(by decide +kernel : ∀ t : Fin grid0.N, win0_8.index t = ![0, 0])]

theorem B9_apply (c : Dev nD) (t : Fin cfg0.N) (q : Fin 768) (d : Fin 1536) : B9 m c t (ix2 q d) = ((aIn m c).ow q d : EReal) := by
  show _ = (a10 m c (ix2 q d) : EReal)
  unfold B9
  blk_simp [iblk]
  rw [V_main_arg10]
  congr 1
  blk_ext [(by decide +kernel : ∀ t : Fin grid0.N, win0_9.index t = ![0, 0])]

theorem B10_apply (c : Dev nD) (t : Fin cfg0.N) (q : Fin 768) : B10 m c t (ix2 0 q) = ((aIn m c).nw q : EReal) := by
  show _ = (a1 m c (ix1 q) : EReal)
  rw [← V_main_v7]
  unfold B10
  blk_simp [iblk]
  congr 1
  blk_ext [(by decide +kernel : ∀ t : Fin grid0.N, win0_10.index t = ![0, 0])]

/-! ## A chunk's rows -/

theorem nrm_eq (c : Dev nD) (t : Fin cfg0.N) (r : Fin 256) (q : Fin 768) : nrm (B0 m c t) (B10 m c t) r q = xn (aIn m c) (256 * t.val + r.val) q := by
  unfold nrm xn
  simp only [B0_apply, B10_apply]

theorem xr_eq (c : Dev nD) (t : Fin cfg0.N) (r : Fin 256) (d : Fin 1536) :
    k0_pay25 (F := Ideal) (B0 m c t) (B10 m c t) (B1 m c t) (ix2 r d) = xr (aIn m c) (256 * t.val + r.val) d := by
  rw [pay25_apply]
  unfold xr
  exact Finset.sum_congr rfl fun q _ => by rw [nrm_eq, B1_apply]

theorem zz_eq (c : Dev nD) (t : Fin cfg0.N) (r : Fin 256) (d : Fin 1536) :
    k0_pay21 (F := Ideal) (B0 m c t) (B10 m c t) (B1 m c t) (ix2 r d) = zz (aIn m c) (256 * t.val + r.val) d := by
  rw [pay21_apply]
  unfold zz
  exact Finset.sum_congr rfl fun q _ => by rw [nrm_eq, B1_apply]

theorem tN_apply (c : Dev nD) (t : Fin cfg0.N) (r : Fin 8) (d : Fin 1536) : tN m c t (ix2 r d) = xr (aIn m c) (256 * t.val + (248 + r.val)) d := by
  unfold tN
  rw [pay26_apply]
  unfold xr
  exact Finset.sum_congr rfl fun q _ => by rw [nrm_eq, B1_apply]

theorem tPre_apply (c : Dev nD) (n : ℕ) (hn : n < 8) (r : Fin 8) (d : Fin 1536) :
    tPre m c n (ix2 r d) = (if 256 * n + r.val < 8 then 0 else xr (aIn m c) (256 * n + r.val - 8) d : EReal) := by
  cases n with
  | zero => rw [if_pos (by omega)]; exact pay22_apply r d
  | succ n =>
    rw [if_neg (by omega), tPre, dif_pos (lt_of_lt_of_eq (by omega : n < 8) (show cfg0.N = 8 from N_0).symm), tN_apply]
    exact congrArg (fun k => xr (aIn m c) k d) (by show 256 * n + (248 + r.val) = _; omega)

theorem shv_apply (c : Dev nD) (t : Fin cfg0.N) (k : ℕ) (hk : 5 + k ≤ 8) (r : Fin 256) (d : Fin 1536) :
    shv (F := Ideal) (5 + k) hk (tPre m c t.val) (k0_pay25 (F := Ideal) (B0 m c t) (B10 m c t) (B1 m c t)) (ix2 r d) = sh (aIn m c) (256 * t.val + r.val) k d := by
  unfold shv sh
  by_cases h : 5 + k + r.val < 8
  · rw [dif_pos (show 5 + k + ((ix2 r d : S256x1536.Idx) (0 : Fin 2)).val < 8 from h)]
    refine (congrArg (tPre m c t.val) (?_ : _ = (ix2 ⟨5 + k + r.val, h⟩ d : S8x1536.Idx))).trans ?_
    · funext a; match a with
      | ⟨0, _⟩ => rfl
      | ⟨1, _⟩ => rfl
    · rw [tPre_apply m c t.val (lt8 t)]
      by_cases h2 : 256 * t.val + r.val + k < 3
      · rw [if_pos (show 256 * t.val + (5 + k + r.val) < 8 by omega), if_pos h2]
      · rw [if_neg (show ¬ 256 * t.val + (5 + k + r.val) < 8 by omega), if_neg h2]
        exact congrArg (fun k => xr (aIn m c) k d) (by show 256 * t.val + (5 + k + r.val) - 8 = _; omega)
  · rw [dif_neg (show ¬ 5 + k + ((ix2 r d : S256x1536.Idx) (0 : Fin 2)).val < 8 from h)]
    refine (congrArg (k0_pay25 (F := Ideal) (B0 m c t) (B10 m c t) (B1 m c t)) (?_ : _ = (ix2 ⟨5 + k + r.val - 8, by omega⟩ d : S256x1536.Idx))).trans ?_
    · funext a; match a with
      | ⟨0, _⟩ => rfl
      | ⟨1, _⟩ => rfl
    · rw [xr_eq, if_neg (show ¬ 256 * t.val + r.val + k < 3 by omega)]
      exact congrArg (fun k => xr (aIn m c) k d) (by show 256 * t.val + (5 + k + r.val - 8) = _; omega)

theorem cnv_eq (c : Dev nD) (t : Fin cfg0.N) (h5 h6 h7 h8) (r : Fin 256) (d : Fin 1536) :
    cnv (B2 m c t) (B3 m c t) (shv (F := Ideal) 5 h5 (tPre m c t.val) (k0_pay25 (F := Ideal) (B0 m c t) (B10 m c t) (B1 m c t)))
      (shv (F := Ideal) 6 h6 (tPre m c t.val) (k0_pay25 (F := Ideal) (B0 m c t) (B10 m c t) (B1 m c t)))
      (shv (F := Ideal) 7 h7 (tPre m c t.val) (k0_pay25 (F := Ideal) (B0 m c t) (B10 m c t) (B1 m c t)))
      (shv (F := Ideal) 8 h8 (tPre m c t.val) (k0_pay25 (F := Ideal) (B0 m c t) (B10 m c t) (B1 m c t))) r d = cv (aIn m c) (256 * t.val + r.val) d := by
  unfold cnv cv
  have e0 := shv_apply m c t 0 (by decide) r d
  have e1 := shv_apply m c t 1 (by decide) r d
  have e2 := shv_apply m c t 2 (by decide) r d
  have e3 := shv_apply m c t 3 (by decide) r d
  rw [← e0, ← e1, ← e2, ← e3, B3_apply, B2_apply, B2_apply, B2_apply, B2_apply]

section
variable (c : Dev nD) (t : Fin cfg0.N) (r : Fin 256)

theorem xiV_apply (d : Fin 1536) : xiV (F := Ideal) (B0 m c t) (B1 m c t) (B2 m c t) (B3 m c t) (B10 m c t) (tPre m c t.val) (ix2 r d) = xi (aIn m c) (256 * t.val + r.val) d := by
  unfold xiV xi
  rw [pay27_apply, cnv_eq]

theorem xdV_apply (e : Fin 128) : xdV (F := Ideal) (B0 m c t) (B1 m c t) (B2 m c t) (B3 m c t) (B4 m c t) (B10 m c t) (tPre m c t.val) (ix2 r e) = (if h : e.val < 80 then xd (aIn m c) (256 * t.val + r.val) ⟨e.val, h⟩ else 0 : EReal) := by
  unfold xdV xd
  rw [pay28_apply]
  simp only [cnv_eq, B4_apply]
  split
  · rfl
  · exact Finset.sum_eq_zero fun d _ => mul_zero _

theorem pcV_apply (d : Fin 1536) : pcV (F := Ideal) (B0 m c t) (B1 m c t) (B2 m c t) (B3 m c t) (B4 m c t) (B5 m c t) (B6 m c t) (B10 m c t) (tPre m c t.val) (ix2 r d) = pa (aIn m c) (256 * t.val + r.val) d := by
  unfold pcV pa
  rw [pay31_apply, B6_apply]
  congr 1
  refine sum_pad (by decide) _ _ (fun k => ?_) (fun k hk => ?_)
  · rw [B5_apply, dif_pos k.isLt]
    exact congrArg (· * _) ((xdV_apply m c t r ⟨k.val, by omega⟩).trans (dif_pos (show k.val < 80 by omega)))
  · rw [B5_apply, dif_neg (by omega), mul_zero]

theorem pbV_apply (d : Fin 1536) : pbV (F := Ideal) (B0 m c t) (B1 m c t) (B2 m c t) (B3 m c t) (B4 m c t) (B5 m c t) (B6 m c t) (B10 m c t) (tPre m c t.val) (ix2 r d) = max (pa (aIn m c) (256 * t.val + r.val) d) 0 := by
  rw [← pcV_apply]
  unfold pbV pcV
  rw [pay30_apply, pay31_apply]

theorem dtV_apply (d : Fin 1536) : dtV (F := Ideal) (B0 m c t) (B1 m c t) (B2 m c t) (B3 m c t) (B4 m c t) (B5 m c t) (B6 m c t) (B10 m c t) (tPre m c t.val) (ix2 r d) = dt (aIn m c) (256 * t.val + r.val) d := by
  unfold dtV dt sp
  rw [pay35_apply, pbV_apply, pcV_apply]

theorem dxV_apply (d : Fin 1536) : dxV (F := Ideal) (B0 m c t) (B1 m c t) (B2 m c t) (B3 m c t) (B4 m c t) (B5 m c t) (B6 m c t) (B10 m c t) (tPre m c t.val) (ix2 r d) = dt (aIn m c) (256 * t.val + r.val) d * xi (aIn m c) (256 * t.val + r.val) d := by
  unfold dxV dt sp
  rw [pay36_apply, pbV_apply, pcV_apply, xiV_apply]

theorem bV_apply (s : Fin 16) : bV (F := Ideal) (B0 m c t) (B1 m c t) (B2 m c t) (B3 m c t) (B4 m c t) (B10 m c t) (tPre m c t.val) (ix2 r s) = bb (aIn m c) (256 * t.val + r.val) s := by
  unfold bV bb
  rw [pay33_apply, xdV_apply, dif_pos (show 48 + s.val < 80 by omega)]

theorem cV_apply (s : Fin 16) : cV (F := Ideal) (B0 m c t) (B1 m c t) (B2 m c t) (B3 m c t) (B4 m c t) (B10 m c t) (tPre m c t.val) (ix2 r s) = cc (aIn m c) (256 * t.val + r.val) s := by
  unfold cV cc
  rw [pay34_apply, xdV_apply, dif_pos (show 64 + s.val < 80 by omega)]
end

/-! ## The recurrence -/

theorem rows_apply (k : Fin k0_t1_loop.trips) (hk : k.val < 32) (D : FVec Ideal S256x1536 .f32) (j : Fin 8) (d : Fin 1536) :
    rows (F := Ideal) k D (ix2 j d) = D (ix2 ⟨8 * k.val + j.val, by omega⟩ d) := by
  unfold rows
  refine View.ld_unit_apply_of (Val := Elt Ideal) (e := .f32) D (k0_off1 k) _ (k0_off1_inb k) (ix2 j d : S8x1536.Idx) (ix2 ⟨8 * k.val + j.val, by omega⟩ d : S256x1536.Idx) fun a => ?_
  refine Eq.trans ?_ (congrArg (· + ((ix2 j d : S8x1536.Idx) a).val) (congrFun (off1_eq k) a).symm)
  match a with
  | ⟨0, _⟩ => rfl
  | ⟨1, _⟩ => show d.val = 0 + d.val; omega

theorem rowsS_apply (k : Fin k0_t1_loop.trips) (hk : k.val < 32) (D : FVec Ideal S256x16 .f32) (j : Fin 8) (s : Fin 16) :
    rowsS (F := Ideal) k D (ix2 j s) = D (ix2 ⟨8 * k.val + j.val, by omega⟩ s) := by
  unfold rowsS
  refine View.ld_unit_apply_of (Val := Elt Ideal) (e := .f32) D (k0_off2 k) _ (k0_off2_inb k) (ix2 j s : S8x16.Idx) (ix2 ⟨8 * k.val + j.val, by omega⟩ s : S256x16.Idx) fun a => ?_
  refine Eq.trans ?_ (congrArg (· + ((ix2 j s : S8x16.Idx) a).val) (congrFun (off2_eq k) a).symm)
  match a with
  | ⟨0, _⟩ => rfl
  | ⟨1, _⟩ => show s.val = 0 + s.val; omega

section
variable (c : Dev nD) (t : Fin cfg0.N)

/-- A trip's steps run through the states. -/
theorem stps_eq (k : Fin k0_t1_loop.trips) (hk : k.val < 32) (acc : FVec Ideal S16x1536 .f32) (hacc : ∀ (s : Fin 16) (d : Fin 1536), acc (ix2 s d) = H (aIn m c) (256 * t.val + 8 * k.val) s d) (j : ℕ) (hj : j ≤ 8) (s : Fin 16) (d : Fin 1536) :
    stps (B7 m c t) acc (rows (F := Ideal) k (dtV (F := Ideal) (B0 m c t) (B1 m c t) (B2 m c t) (B3 m c t) (B4 m c t) (B5 m c t) (B6 m c t) (B10 m c t) (tPre m c t.val))) (rows (F := Ideal) k (dxV (F := Ideal) (B0 m c t) (B1 m c t) (B2 m c t) (B3 m c t) (B4 m c t) (B5 m c t) (B6 m c t) (B10 m c t) (tPre m c t.val))) (rowsS (F := Ideal) k (bV (F := Ideal) (B0 m c t) (B1 m c t) (B2 m c t) (B3 m c t) (B4 m c t) (B10 m c t) (tPre m c t.val))) j s d
      = H (aIn m c) (256 * t.val + 8 * k.val + j) s d := by
  induction j generalizing s d with
  | zero => exact hacc s d
  | succ j ih =>
    rw [stps, dif_pos (by omega)]
    unfold stp
    rw [ih (by omega), rows_apply k hk, rows_apply k hk, rowsS_apply k hk, dtV_apply, dxV_apply, bV_apply, B7_apply, ← Nat.add_assoc (256 * t.val + 8 * k.val) j 1, H]
    simp only [Nat.add_assoc]

variable (hh : ∀ (s : Fin 16) (d : Fin 1536), hPre m c t.val (ix2 s d) = H (aIn m c) (256 * t.val) s d)
include hh

theorem hIt_eq (n : ℕ) (hn : n ≤ 32) (s : Fin 16) (d : Fin 1536) :
    hIt (F := Ideal) (B7 m c t) (dtV (F := Ideal) (B0 m c t) (B1 m c t) (B2 m c t) (B3 m c t) (B4 m c t) (B5 m c t) (B6 m c t) (B10 m c t) (tPre m c t.val)) (dxV (F := Ideal) (B0 m c t) (B1 m c t) (B2 m c t) (B3 m c t) (B4 m c t) (B5 m c t) (B6 m c t) (B10 m c t) (tPre m c t.val)) (bV (F := Ideal) (B0 m c t) (B1 m c t) (B2 m c t) (B3 m c t) (B4 m c t) (B10 m c t) (tPre m c t.val)) (hPre m c t.val) n (ix2 s d)
      = H (aIn m c) (256 * t.val + 8 * n) s d := by
  induction n generalizing s d with
  | zero => exact hh s d
  | succ n ih =>
    rw [hIt, dif_pos (by rw [trips_eq]; omega)]
    unfold tripH
    rw [trip_stps, stps_eq m c t _ (by show n < 32; omega) _ (fun s d => ih (by omega) s d) 8 (le_refl _)]
    exact congrArg (fun k => H (aIn m c) k s d) (by show 256 * t.val + 8 * n + 8 = _; omega)

theorem hN_apply (s : Fin 16) (d : Fin 1536) : hN m c t (hPre m c t.val) (tPre m c t.val) (ix2 s d) = H (aIn m c) (256 * (t.val + 1)) s d := by
  unfold hN hV
  rw [pay41_apply, hIt_eq m c t hh 32 (le_refl _)]
  exact congrArg (fun k => H (aIn m c) k s d) (by omega)

theorem yV_apply (r : Fin 256) (d : Fin 1536) : yV (F := Ideal) (B0 m c t) (B1 m c t) (B2 m c t) (B3 m c t) (B4 m c t) (B5 m c t) (B6 m c t) (B7 m c t) (B10 m c t) (hPre m c t.val) (tPre m c t.val) (ix2 r d) = y (aIn m c) (256 * t.val + r.val) d := by
  unfold yV yOut
  have hk : (tripOf (ix2 r d)).val = r.val / 8 := rfl
  have hp : placeOf (ix2 r d) = (ix2 ⟨r.val % 8, Nat.mod_lt _ (by decide)⟩ d : S8x1536.Idx) := by
    funext a; match a with
    | ⟨0, _⟩ => rfl
    | ⟨1, _⟩ => rfl
  rw [hp]
  generalize tripOf (ix2 r d) = k at hk
  refine (payY_apply _ _ _ _ _ _ _ _).trans ?_
  unfold y
  refine Finset.sum_congr rfl fun s _ => ?_
  rw [stps_eq m c t k (by omega) _ (fun s d => hIt_eq m c t hh k.val (by omega) s d) _ (by show r.val % 8 + 1 ≤ 8; omega), rowsS_apply k (by omega), cV_apply]
  have e : 256 * t.val + (8 * k.val + r.val % 8) = 256 * t.val + r.val := by omega
  have e' : 256 * t.val + 8 * k.val + (r.val % 8 + 1) = 256 * t.val + r.val + 1 := by omega
  show H (aIn m c) (256 * t.val + 8 * k.val + (r.val % 8 + 1)) s d * cc (aIn m c) (256 * t.val + (8 * k.val + r.val % 8)) s = _
  rw [e, e']

theorem oN_apply (r : Fin 256) (q : Fin 768) : oN m c t (hPre m c t.val) (tPre m c t.val) (ix2 r q) = out (aIn m c) (256 * t.val + r.val) q := by
  unfold oN outV out
  rw [pay1_apply, B0_apply]
  congr 1
  refine Finset.sum_congr rfl fun d _ => ?_
  rw [yV_apply m c t hh, xiV_apply, zz_eq, B8_apply, B9_apply]
end

theorem hPre_apply (c : Dev nD) (n : ℕ) (hn : n ≤ 8) (s : Fin 16) (d : Fin 1536) : hPre m c n (ix2 s d) = H (aIn m c) (256 * n) s d := by
  induction n generalizing s d with
  | zero => exact pay23_apply s d
  | succ n ih =>
    have hN : n < cfg0.N := lt_of_lt_of_eq (by omega : n < 8) (show cfg0.N = 8 from N_0).symm
    rw [show hPre m c (n + 1) = _ from hPre_succ m c ⟨n, hN⟩]
    exact hN_apply m c ⟨n, hN⟩ (fun s d => ih (by omega) s d) s d

/-! ## The array after the call -/

def rowsOut (c : Dev nD) : S2048x768.Idx → EReal := fun i => out (aIn m c) (i 0).val (i 1)

theorem idx11 : ∀ t : Fin grid0.N, win0_11.index t = ![t.val, 0] := by decide +kernel

theorem oN_at (c : Dev nD) (t : Fin cfg0.N) (j : S256x768.Idx) (i : S2048x768.Idx) (h0 : (i 0).val = 256 * t.val + (j 0).val) (h1 : (i 1).val = (j 1).val) :
    oN m c t (hPre m c t.val) (tPre m c t.val) j = rowsOut m c i := by
  obtain ⟨r, q, rfl⟩ : ∃ (r : Fin 256) (q : Fin 768), j = ix2 r q := ⟨j 0, j 1, by
    funext a; match a with
    | ⟨0, _⟩ => rfl
    | ⟨1, _⟩ => rfl⟩
  replace h0 : (i 0).val = 256 * t.val + r.val := h0
  have h1 : i 1 = q := Fin.ext h1
  rw [oN_apply m c t (hPre_apply m c t.val (le_of_lt (lt8 t)))]
  unfold rowsOut
  rw [h0, h1]

theorem final11 (c : Dev nD) : (dats m 0 c).arrAt 11 cfg0.N = rowsOut m c := by
  refine (dats m 0 c).arrAt_eq_of_covers 11 _ (by decide +kernel) fun t hf y => ?_
  rw [after0_11]
  blk_simp
  refine oN_at m c t y ((win0_11.blk t).view.emb y) ?_ ?_
  · blk_simp [idx11 t]
    try omega
  · blk_simp [idx11 t]

/-- The run: the layer's rows, the arguments unchanged. -/
theorem run : θ_run defs (onTc (τ := τ) (main (F := Ideal))) ⟨m, fun _ => 0, ρ⟩ (fun r => ∀ c : Dev nD,
      r.2.mem ((c.tc : Thread nD τ).loc main_v8) = rowsOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  θ_run_mono (θ_run_and (run_main m ρ) (frame m ρ)) (fun _ h c => ⟨((h.1.1 c).1 11).trans (final11 m c), h.2.1 c⟩)

end Cert.LayerIdeal.Body

end
-- ==== Proof.LayerRefValue.lean ====
/- The reference layer over the extended reals: its lines before the loop, the recurrence's trips, the lines after. -/
module

public import proofs.«01_k».proof.Proof.LayerRefFrame
public import proofs.«01_k».proof.Proof.LayerMath
public import Idealize.ShloMosaic.Lib.WordCmp

@[expose] public section

set_option maxRecDepth 16384

noncomputable section

namespace Cert.LayerRefIdeal.Body

open Cert.LayerMath Cert.LayerRefIdeal Cert.LayerRefIdeal.Gen Cert.LayerRefIdeal.Value
open Idealize.ShloMosaic Idealize.ShloMosaic.TcCoe Idealize.ShloMosaic.StableHlo Idealize.SL.Sem

/-! ## Buffers at their shapes -/

abbrev g_v64_0 (V : Valuation τ sig (Elt Ideal)) : S2048x1536.Idx → EReal := V (Proc.devRef .tc main_v64_0)
abbrev g_v64_1 (V : Valuation τ sig (Elt Ideal)) : S2048x1536.Idx → EReal := V (Proc.devRef .tc main_v64_1)
abbrev g_v64_2 (V : Valuation τ sig (Elt Ideal)) : S2048x16.Idx → EReal := V (Proc.devRef .tc main_v64_2)
abbrev g_v64_3 (V : Valuation τ sig (Elt Ideal)) : S2048x16.Idx → EReal := V (Proc.devRef .tc main_v64_3)
abbrev g_v64_4 (V : Valuation τ sig (Elt Ideal)) : S1536x16.Idx → EReal := V (Proc.devRef .tc main_v64_4)
abbrev g_v64_6 (V : Valuation τ sig (Elt Ideal)) : S1536x16.Idx → EReal := V (Proc.devRef .tc main_v64_6)
abbrev g_v64_7 (V : Valuation τ sig (Elt Ideal)) : S2048x1536.Idx → EReal := V (Proc.devRef .tc main_v64_7)
abbrev g_v15 (V : Valuation τ sig (Elt Ideal)) : S2048x1536.Idx → EReal := V (Proc.devRef .tc main_v15)
abbrev g_v16 (V : Valuation τ sig (Elt Ideal)) : S2048x1536.Idx → EReal := V (Proc.devRef .tc main_v16)
abbrev g_v17 (V : Valuation τ sig (Elt Ideal)) : S2051x1536.Idx → EReal := V (Proc.devRef .tc main_v17)
abbrev g_v47 (V : Valuation τ sig (Elt Ideal)) : S2048x1536.Idx → EReal := V (Proc.devRef .tc main_v47)
abbrev g_v48 (V : Valuation τ sig (Elt Ideal)) : S2048x1536.Idx → EReal := V (Proc.devRef .tc main_v48)
abbrev g_v52 (V : Valuation τ sig (Elt Ideal)) : S2048x16.Idx → EReal := V (Proc.devRef .tc main_v52)
abbrev g_v53 (V : Valuation τ sig (Elt Ideal)) : S2048x16.Idx → EReal := V (Proc.devRef .tc main_v53)
abbrev g_v58 (V : Valuation τ sig (Elt Ideal)) : S2048x1536.Idx → EReal := V (Proc.devRef .tc main_v58)
abbrev g_v59 (V : Valuation τ sig (Elt Ideal)) : S2048x1536.Idx → EReal := V (Proc.devRef .tc main_v59)
abbrev g_v68 (V : Valuation τ sig (Elt Ideal)) : S2048x1536.Idx → EReal := V (Proc.devRef .tc main_v68)
abbrev g_v69 (V : Valuation τ sig (Elt Ideal)) : S2048x1536.Idx → EReal := V (Proc.devRef .tc main_v69)
abbrev g_v73 (V : Valuation τ sig (Elt Ideal)) : S2048x768.Idx → EReal := V (Proc.devRef .tc main_v73)
abbrev g_v89 (V : Valuation τ sig (Elt Ideal)) : S1536x16.Idx → EReal := res_main_while0b_v89 V
abbrev g_s7 (V : Valuation τ sig (Elt Ideal)) : S2048x1536.Idx → EReal := step_main_v64_7 V
abbrev g_arg0 (V : Valuation τ sig (Elt Ideal)) : S2048x768.Idx → EReal := V (Proc.devRef .tc main_arg0)
abbrev g_arg1 (V : Valuation τ sig (Elt Ideal)) : S768.Idx → EReal := V (Proc.devRef .tc main_arg1)
abbrev g_arg2 (V : Valuation τ sig (Elt Ideal)) : S3072x768.Idx → EReal := V (Proc.devRef .tc main_arg2)
abbrev g_arg3 (V : Valuation τ sig (Elt Ideal)) : S1536x4.Idx → EReal := V (Proc.devRef .tc main_arg3)
abbrev g_arg4 (V : Valuation τ sig (Elt Ideal)) : S1536.Idx → EReal := V (Proc.devRef .tc main_arg4)
abbrev g_arg5 (V : Valuation τ sig (Elt Ideal)) : S80x1536.Idx → EReal := V (Proc.devRef .tc main_arg5)
abbrev g_arg6 (V : Valuation τ sig (Elt Ideal)) : S1536x48.Idx → EReal := V (Proc.devRef .tc main_arg6)
abbrev g_arg7 (V : Valuation τ sig (Elt Ideal)) : S1536.Idx → EReal := V (Proc.devRef .tc main_arg7)
abbrev g_arg8 (V : Valuation τ sig (Elt Ideal)) : S1536x16.Idx → EReal := V (Proc.devRef .tc main_arg8)
abbrev g_arg9 (V : Valuation τ sig (Elt Ideal)) : S1536.Idx → EReal := V (Proc.devRef .tc main_arg9)
abbrev g_arg10 (V : Valuation τ sig (Elt Ideal)) : S768x1536.Idx → EReal := V (Proc.devRef .tc main_arg10)

theorem iv_toInt (k : ℕ) (hk : k < 2048) : (Scf.iv 0#32 1#32 k : BitVec 32).toInt = (k : Int) := by
  rw [show (Scf.iv 0#32 1#32 k : BitVec 32) = BitVec.ofNat 32 k by simp [Scf.iv]]
  exact WordCmp.toInt_ofNat_of_lt (by omega)

/-- The start of a trip's row. -/
abbrev st (i : S_.Idx → BitVec 32) : Fin 2 → Int := fun k => (((![i, constantI S_ 32 0#32] : Fin 2 → (⟨S_, .i32⟩ : BufTy).Contents (Elt Ideal))) k (Shape.Idx.first h_S_)).toInt

theorem st_eq (k : ℕ) (hk : k < 2048) (a : Fin 2) : st (fun _ => Scf.iv 0#32 1#32 k) a = ((![k, 0] : Fin 2 → ℕ) a : Int) :=
  match a with
  | ⟨0, _⟩ => iv_toInt k hk
  | ⟨1, _⟩ => rfl

theorem fit (k : ℕ) (hk : k < 2048) : S2048x1536.Slices ![k, 0] S1x1536 := ⟨rfl, fun a => match a with
  | ⟨0, _⟩ => by show k + 1 ≤ 2048; omega
  | ⟨1, _⟩ => by show 0 + 1536 ≤ 1536; omega⟩
theorem fitS (k : ℕ) (hk : k < 2048) : S2048x16.Slices ![k, 0] S1x16 := ⟨rfl, fun a => match a with
  | ⟨0, _⟩ => by show k + 1 ≤ 2048; omega
  | ⟨1, _⟩ => by show 0 + 16 ≤ 16; omega⟩

theorem row_apply (x : FVec Ideal S2048x1536 .f32) (k : ℕ) (hk : k < 2048) (d : Fin 1536) :
    shapeCast S1536 (Host.dynamicSlice S1x1536 x (st (fun _ => Scf.iv 0#32 1#32 k)) sliceFits_S2048x1536_S1x1536) shapeCasts_S1x1536_S1536 (ix1 d) = x (ix2 ⟨k, hk⟩ d) := by
  rw [WordCmp.dynamicSlice_eq_extract _ _ _ _ ![k, 0] (fit k hk) (st_eq k hk)]
  pointwise

theorem rowS_apply (x : FVec Ideal S2048x16 .f32) (k : ℕ) (hk : k < 2048) (s : Fin 16) :
    shapeCast S16 (Host.dynamicSlice S1x16 x (st (fun _ => Scf.iv 0#32 1#32 k)) sliceFits_S2048x16_S1x16) shapeCasts_S1x16_S16 (ix1 s) = x (ix2 ⟨k, hk⟩ s) := by
  rw [WordCmp.dynamicSlice_eq_extract _ _ _ _ ![k, 0] (fitS k hk) (st_eq k hk)]
  pointwise

def v89T (T X : FVec Ideal S1536 .f32) (B : FVec Ideal S16 .f32) (A h : FVec Ideal S1536x16 .f32) : FVec Ideal S1536x16 .f32 :=
  addf (mulf (Host.exp (mulf (broadcastInDim S1536x16 ![0, 1] bcast_S1536x1_S1536x16_0_1 (broadcastInDim S1536x1 ![0] bcast_S1536_S1536x1_0 T)) A)) h)
    (mulf (broadcastInDim S1536x16 ![0, 1] bcast_S1536x1_S1536x16_0_1 (broadcastInDim S1536x1 ![0] bcast_S1536_S1536x1_0 (mulf T X)))
      (broadcastInDim S1536x16 ![0, 1] bcast_S1x16_S1536x16_0_1 (broadcastInDim S1x16 ![1] bcast_S16_S1x16_1 B)))

theorem v89T_apply (T X : FVec Ideal S1536 .f32) (B : FVec Ideal S16 .f32) (A h : FVec Ideal S1536x16 .f32) (d : Fin 1536) (s : Fin 16) :
    v89T T X B A h (ix2 d s) = Ideal.exp (T (ix1 d) * A (ix2 d s)) * h (ix2 d s) + T (ix1 d) * X (ix1 d) * B (ix1 s) := by
  pointwise [v89T]

theorem v89_apply (V : Valuation τ sig (Elt Ideal)) (k : ℕ) (hk : k < 2048) (hi : V (Proc.devRef .tc main_v64_5) = fun _ => Scf.iv 0#32 1#32 k) (d : Fin 1536) (s : Fin 16) :
    g_v89 V (ix2 d s)
      = Ideal.exp (g_v64_1 V (ix2 ⟨k, hk⟩ d) * g_v64_4 V (ix2 d s)) * g_v64_6 V (ix2 d s)
        + g_v64_1 V (ix2 ⟨k, hk⟩ d) * g_v64_0 V (ix2 ⟨k, hk⟩ d) * g_v64_2 V (ix2 ⟨k, hk⟩ s) := by
  unfold g_v89 res_main_while0b_v89 res_main_while0b_v75
  rw [hi]
  refine (v89T_apply _ _ _ _ _ d s).trans ?_
  have e1 := row_apply (g_v64_1 V) k hk d
  have e0 := row_apply (g_v64_0 V) k hk d
  have e2 := rowS_apply (g_v64_2 V) k hk s
  rw [← e1, ← e0, ← e2]
  rfl

def y7T (h : FVec Ideal S1536x16 .f32) (C : FVec Ideal S16 .f32) : FVec Ideal S1x1536 .f32 :=
  broadcastInDim S1x1536 ![1] bcast_S1536_S1x1536_1 (Host.dotGeneral dot_S1536x16_S16_S1536_1_0_0_n_n_n none h C)
theorem y7T_apply (h : FVec Ideal S1536x16 .f32) (C : FVec Ideal S16 .f32) (d : Fin 1536) : y7T h C (ix2 0 d) = ∑ s : Fin 16, h (ix2 d s) * C (ix1 s) := by
  pointwise [y7T]

theorem upd_at (x : FVec Ideal S2048x1536 .f32) (u : FVec Ideal S1x1536 .f32) (k : ℕ) (hk : k < 2048) (n : Fin 2048) (d : Fin 1536) :
    Host.dynamicUpdateSlice x u (st (fun _ => Scf.iv 0#32 1#32 k)) updateFits_S2048x1536_S1x1536 (ix2 n d) = if n.val = k then u (ix2 0 d) else x (ix2 n d) := by
  rw [WordCmp.dynamicUpdateSlice_eq_update _ _ _ _ ![k, 0] (fit k hk) (st_eq k hk)]
  unfold updateSlice
  by_cases h : n.val = k
  · rw [dif_pos (fun a => match a with
      | ⟨0, _⟩ => ⟨by show k ≤ n.val; omega, by show n.val < k + 1; omega⟩
      | ⟨1, _⟩ => ⟨by show 0 ≤ d.val; omega, by show d.val < 0 + 1536; omega⟩), if_pos h]
    congr 1
    funext a
    match a with
    | ⟨0, _⟩ => exact Fin.ext (by show n.val - k = 0; omega)
    | ⟨1, _⟩ => exact Fin.ext (by show d.val - 0 = d.val; omega)
  · rw [dif_neg (fun hh => by
      obtain ⟨h1, h2⟩ := hh (0 : Fin 2)
      replace h1 : k ≤ n.val := h1
      replace h2 : n.val < k + 1 := h2
      omega), if_neg h]

theorem v7_apply (V : Valuation τ sig (Elt Ideal)) (k : ℕ) (hk : k < 2048) (hi : V (Proc.devRef .tc main_v64_5) = fun _ => Scf.iv 0#32 1#32 k) (n : Fin 2048) (d : Fin 1536) :
    g_s7 V (ix2 n d)
      = if n.val = k then ∑ s : Fin 16, g_v89 V (ix2 d s) * g_v64_3 V (ix2 ⟨k, hk⟩ s)
        else g_v64_7 V (ix2 n d) := by
  unfold g_s7 step_main_v64_7
  rw [hi, id_eq]
  refine (upd_at _ (y7T (res_main_while0b_v89 V) _) k hk n d).trans ?_
  rw [y7T_apply]
  have e3 := fun s => rowS_apply (g_v64_3 V) k hk s
  simp only [← e3]
  rfl

/-! ## The stretches, read at a place -/

variable (V : Valuation τ sig (Elt Ideal))

theorem s_v15 (n : Fin 2048) (d : Fin 1536) : g_v15 (after hostOps0 V) (ix2 n d) = ∑ q : Fin 768, (g_arg0 V (ix2 n q) * Ideal.rsqrt (Ideal.div (∑ q : Fin 768, g_arg0 V (ix2 n q) * g_arg0 V (ix2 n q)) (Ideal.ofBits .f32 0x44400000#32) + Ideal.ofBits .f32 0x3727C5AC#32) * g_arg1 V (ix1 q)) * g_arg2 V (ix2 ⟨d.val, by omega⟩ q) := by
  unfold g_v15
  after_results_simp
  try simp only [TRef.ofBuf, TRef.toBuf, cast_eq, id_eq]
  pointwise

theorem s_v16 (n : Fin 2048) (d : Fin 1536) : g_v16 (after hostOps0 V) (ix2 n d) = ∑ q : Fin 768, (g_arg0 V (ix2 n q) * Ideal.rsqrt (Ideal.div (∑ q : Fin 768, g_arg0 V (ix2 n q) * g_arg0 V (ix2 n q)) (Ideal.ofBits .f32 0x44400000#32) + Ideal.ofBits .f32 0x3727C5AC#32) * g_arg1 V (ix1 q)) * g_arg2 V (ix2 ⟨1536 + d.val, by omega⟩ q) := by
  unfold g_v16
  after_results_simp
  try simp only [TRef.ofBuf, TRef.toBuf, cast_eq, id_eq]
  pointwise

theorem s_c : after hostOps0 V (Proc.devRef .tc main_c) = constantI S_ 32 0#32 := by
  after_results_simp

theorem s_v17 (hc : V (Proc.devRef .tc main_c) = constantI S_ 32 0#32) (t : Fin 2051) (d : Fin 1536) : g_v17 (after hostOps0_1 V) (ix2 t d) = if h : 3 ≤ t.val then g_v15 V (ix2 ⟨t.val - 3, by omega⟩ d) else 0 := by
  unfold g_v17
  after_results_simp
  try simp only [TRef.ofBuf, TRef.toBuf, cast_eq, id_eq]
  pointwise
  rw [hc]
  pointwise
  rw [sitofp_zero]
  by_cases h : 3 ≤ t.val
  · rw [dif_pos ⟨h, by omega⟩, dif_pos h]
  · rw [dif_neg (fun hh => h hh.1), dif_neg h]

theorem s_v47 (n : Fin 2048) (d : Fin 1536) : g_v47 (after hostOps0_2 V) (ix2 n d) = g_arg4 V (ix1 d) + g_v17 V (ix2 ⟨n.val, by omega⟩ d) * g_arg3 V (ix2 d 0) + g_v17 V (ix2 ⟨1 + n.val, by omega⟩ d) * g_arg3 V (ix2 d 1)
      + g_v17 V (ix2 ⟨2 + n.val, by omega⟩ d) * g_arg3 V (ix2 d 2) + g_v17 V (ix2 ⟨3 + n.val, by omega⟩ d) * g_arg3 V (ix2 d 3) := by
  unfold g_v47
  after_results_simp
  try simp only [TRef.ofBuf, TRef.toBuf, cast_eq, id_eq]
  pointwise

theorem s_v48 (n : Fin 2048) (d : Fin 1536) : g_v48 (after hostOps0_3 V) (ix2 n d) = g_v47 V (ix2 n d) * Ideal.logistic (g_v47 V (ix2 n d)) := by
  unfold g_v48
  after_results_simp
  try simp only [TRef.ofBuf, TRef.toBuf, cast_eq, id_eq]
  pointwise
  rfl

theorem s_v58 (n : Fin 2048) (d : Fin 1536) : g_v58 (after hostOps0_4 V) (ix2 n d) = ∑ k : Fin 48, (∑ x : Fin 1536, g_v48 V (ix2 n x) * g_arg5 V (ix2 ⟨k.val, by omega⟩ x)) * g_arg6 V (ix2 d k) + g_arg7 V (ix1 d) := by
  unfold g_v58
  after_results_simp
  try simp only [TRef.ofBuf, TRef.toBuf, cast_eq, id_eq]
  pointwise

theorem s_v52 (n : Fin 2048) (s : Fin 16) : g_v52 (after hostOps0_4 V) (ix2 n s) = ∑ x : Fin 1536, g_v48 V (ix2 n x) * g_arg5 V (ix2 ⟨48 + s.val, by omega⟩ x) := by
  unfold g_v52
  after_results_simp
  try simp only [TRef.ofBuf, TRef.toBuf, cast_eq, id_eq]
  pointwise

theorem s_v53 (n : Fin 2048) (s : Fin 16) : g_v53 (after hostOps0_4 V) (ix2 n s) = ∑ x : Fin 1536, g_v48 V (ix2 n x) * g_arg5 V (ix2 ⟨64 + s.val, by omega⟩ x) := by
  unfold g_v53
  after_results_simp
  try simp only [TRef.ofBuf, TRef.toBuf, cast_eq, id_eq]
  pointwise

theorem s_v59 (n : Fin 2048) (d : Fin 1536) : g_v59 (after hostOps0_5 V) (ix2 n d) = sp (g_v58 V (ix2 n d)) := by
  unfold g_v59
  after_results_simp
  try simp only [TRef.ofBuf, TRef.toBuf, cast_eq, id_eq]
  pointwise
  simp [sp]

theorem s_v64_0 (n : Fin 2048) (d : Fin 1536) : g_v64_0 (after hostOps0_6 V) (ix2 n d) = g_v48 V (ix2 n d) := by
  unfold g_v64_0
  after_results_simp
  try simp only [TRef.ofBuf, TRef.toBuf, cast_eq, id_eq]

theorem s_v64_1 (n : Fin 2048) (d : Fin 1536) : g_v64_1 (after hostOps0_6 V) (ix2 n d) = g_v59 V (ix2 n d) := by
  unfold g_v64_1
  after_results_simp
  try simp only [TRef.ofBuf, TRef.toBuf, cast_eq, id_eq]

theorem s_v64_2 (n : Fin 2048) (s : Fin 16) : g_v64_2 (after hostOps0_6 V) (ix2 n s) = g_v52 V (ix2 n s) := by
  unfold g_v64_2
  after_results_simp
  try simp only [TRef.ofBuf, TRef.toBuf, cast_eq, id_eq]

theorem s_v64_3 (n : Fin 2048) (s : Fin 16) : g_v64_3 (after hostOps0_6 V) (ix2 n s) = g_v53 V (ix2 n s) := by
  unfold g_v64_3
  after_results_simp
  try simp only [TRef.ofBuf, TRef.toBuf, cast_eq, id_eq]

theorem s_v64_4 (d : Fin 1536) (s : Fin 16) : g_v64_4 (after hostOps0_6 V) (ix2 d s) = -Ideal.exp (g_arg8 V (ix2 d s)) := by
  unfold g_v64_4
  after_results_simp
  try simp only [TRef.ofBuf, TRef.toBuf, cast_eq, id_eq]
  pointwise

theorem s_v64_6 (d : Fin 1536) (s : Fin 16) : g_v64_6 (after hostOps0_6 V) (ix2 d s) = 0 := by
  unfold g_v64_6
  after_results_simp
  try simp only [TRef.ofBuf, TRef.toBuf, cast_eq, id_eq]
  pointwise

theorem s_v64_7 (n : Fin 2048) (d : Fin 1536) : g_v64_7 (after hostOps0_6 V) (ix2 n d) = 0 := by
  unfold g_v64_7
  after_results_simp
  try simp only [TRef.ofBuf, TRef.toBuf, cast_eq, id_eq]
  pointwise

theorem s_v68 (n : Fin 2048) (d : Fin 1536) : g_v68 (after hostOps0_7 V) (ix2 n d) = g_v64_7 V (ix2 n d) + g_v48 V (ix2 n d) * g_arg9 V (ix1 d) := by
  unfold g_v68
  after_results_simp
  try simp only [TRef.ofBuf, TRef.toBuf, cast_eq, id_eq]
  pointwise

theorem s_v69 (n : Fin 2048) (d : Fin 1536) : g_v69 (after hostOps0_8 V) (ix2 n d) = g_v16 V (ix2 n d) * Ideal.logistic (g_v16 V (ix2 n d)) := by
  unfold g_v69
  after_results_simp
  try simp only [TRef.ofBuf, TRef.toBuf, cast_eq, id_eq]
  pointwise
  rfl

theorem s_v73 (n : Fin 2048) (q : Fin 768) : g_v73 (after hostOps0_9 V) (ix2 n q) = g_arg0 V (ix2 n q) + ∑ d : Fin 1536, g_v68 V (ix2 n d) * g_v69 V (ix2 n d) * g_arg10 V (ix2 q d) := by
  unfold g_v73
  after_results_simp
  try simp only [TRef.ofBuf, TRef.toBuf, cast_eq, id_eq]
  pointwise

/-! ## The lines before the loop -/

variable (m : (ℓ : Loc nD τ sig) → Buf (Elt Ideal) ℓ) (c : Dev nD)

abbrev a0 : S2048x768.Idx → EReal := m ((c.tc : Thread nD τ).loc main_arg0)
abbrev a1 : S768.Idx → EReal := m ((c.tc : Thread nD τ).loc main_arg1)
abbrev a2 : S3072x768.Idx → EReal := m ((c.tc : Thread nD τ).loc main_arg2)
abbrev a3 : S1536x4.Idx → EReal := m ((c.tc : Thread nD τ).loc main_arg3)
abbrev a4 : S1536.Idx → EReal := m ((c.tc : Thread nD τ).loc main_arg4)
abbrev a5 : S80x1536.Idx → EReal := m ((c.tc : Thread nD τ).loc main_arg5)
abbrev a6 : S1536x48.Idx → EReal := m ((c.tc : Thread nD τ).loc main_arg6)
abbrev a7 : S1536.Idx → EReal := m ((c.tc : Thread nD τ).loc main_arg7)
abbrev a8 : S1536x16.Idx → EReal := m ((c.tc : Thread nD τ).loc main_arg8)
abbrev a9 : S1536.Idx → EReal := m ((c.tc : Thread nD τ).loc main_arg9)
abbrev a10 : S768x1536.Idx → EReal := m ((c.tc : Thread nD τ).loc main_arg10)

def rIn : In where
  x n q := if h : n < 2048 then a0 m c (ix2 ⟨n, h⟩ q) else 0
  nw q := a1 m c (ix1 q)
  iw e q := a2 m c (ix2 e q)
  cw d k := a3 m c (ix2 d k)
  cb d := a4 m c (ix1 d)
  xp e d := a5 m c (ix2 e d)
  dw d k := a6 m c (ix2 d k)
  db d := a7 m c (ix1 d)
  al d s := a8 m c (ix2 d s)
  dp d := a9 m c (ix1 d)
  ow q d := a10 m c (ix2 q d)

theorem rIn_x (n : Fin 2048) (q : Fin 768) : a0 m c (ix2 n q) = (rIn m c).x n.val q := by
  show _ = if h : n.val < 2048 then a0 m c (ix2 ⟨n.val, h⟩ q) else 0
  rw [dif_pos n.isLt]

def W0 : Valuation τ sig (Elt Ideal) := launchContents m c
def W1 : Valuation τ sig (Elt Ideal) := after hostOps0 (W0 m c)
def W2 : Valuation τ sig (Elt Ideal) := after hostOps0_1 (W1 m c)
def W3 : Valuation τ sig (Elt Ideal) := after hostOps0_2 (W2 m c)
def W4 : Valuation τ sig (Elt Ideal) := after hostOps0_3 (W3 m c)
def W5 : Valuation τ sig (Elt Ideal) := after hostOps0_4 (W4 m c)
def W6 : Valuation τ sig (Elt Ideal) := after hostOps0_5 (W5 m c)
def W7 : Valuation τ sig (Elt Ideal) := after hostOps0_6 (W6 m c)

theorem entry_eq : entryContents preI m c = W7 m c := rfl

theorem keep1 (r : Ref sig .tc) (h : r ∉ hostOps0_W) : W1 m c (Proc.devRef .tc r) = W0 m c (Proc.devRef .tc r) := after_of_writes_sub hostOps0 _ hostOps0_writes h
theorem keep2 (r : Ref sig .tc) (h : r ∉ hostOps0_1_W) : W2 m c (Proc.devRef .tc r) = W1 m c (Proc.devRef .tc r) := after_of_writes_sub hostOps0_1 _ hostOps0_1_writes h
theorem keep3 (r : Ref sig .tc) (h : r ∉ hostOps0_2_W) : W3 m c (Proc.devRef .tc r) = W2 m c (Proc.devRef .tc r) := after_of_writes_sub hostOps0_2 _ hostOps0_2_writes h
theorem keep4 (r : Ref sig .tc) (h : r ∉ hostOps0_3_W) : W4 m c (Proc.devRef .tc r) = W3 m c (Proc.devRef .tc r) := after_of_writes_sub hostOps0_3 _ hostOps0_3_writes h
theorem keep5 (r : Ref sig .tc) (h : r ∉ hostOps0_4_W) : W5 m c (Proc.devRef .tc r) = W4 m c (Proc.devRef .tc r) := after_of_writes_sub hostOps0_4 _ hostOps0_4_writes h
theorem keep6 (r : Ref sig .tc) (h : r ∉ hostOps0_5_W) : W6 m c (Proc.devRef .tc r) = W5 m c (Proc.devRef .tc r) := after_of_writes_sub hostOps0_5 _ hostOps0_5_writes h
theorem keep7 (r : Ref sig .tc) (h : r ∉ hostOps0_6_W) : W7 m c (Proc.devRef .tc r) = W6 m c (Proc.devRef .tc r) := after_of_writes_sub hostOps0_6 _ hostOps0_6_writes h

theorem w2_arg3 : g_arg3 (W2 m c) = a3 m c := ((keep2 m c main_arg3 (by decide +kernel)).trans (keep1 m c main_arg3 (by decide +kernel))).trans rfl
theorem w2_arg4 : g_arg4 (W2 m c) = a4 m c := ((keep2 m c main_arg4 (by decide +kernel)).trans (keep1 m c main_arg4 (by decide +kernel))).trans rfl
theorem w4_arg5 : g_arg5 (W4 m c) = a5 m c := ((keep4 m c main_arg5 (by decide +kernel)).trans ((keep3 m c main_arg5 (by decide +kernel)).trans ((keep2 m c main_arg5 (by decide +kernel)).trans (keep1 m c main_arg5 (by decide +kernel))))).trans rfl
theorem w4_arg6 : g_arg6 (W4 m c) = a6 m c := ((keep4 m c main_arg6 (by decide +kernel)).trans ((keep3 m c main_arg6 (by decide +kernel)).trans ((keep2 m c main_arg6 (by decide +kernel)).trans (keep1 m c main_arg6 (by decide +kernel))))).trans rfl
theorem w4_arg7 : g_arg7 (W4 m c) = a7 m c := ((keep4 m c main_arg7 (by decide +kernel)).trans ((keep3 m c main_arg7 (by decide +kernel)).trans ((keep2 m c main_arg7 (by decide +kernel)).trans (keep1 m c main_arg7 (by decide +kernel))))).trans rfl
theorem w6_arg8 : g_arg8 (W6 m c) = a8 m c := ((keep6 m c main_arg8 (by decide +kernel)).trans ((keep5 m c main_arg8 (by decide +kernel)).trans ((keep4 m c main_arg8 (by decide +kernel)).trans ((keep3 m c main_arg8 (by decide +kernel)).trans ((keep2 m c main_arg8 (by decide +kernel)).trans (keep1 m c main_arg8 (by decide +kernel))))))).trans rfl
theorem w6_v48 : g_v48 (W6 m c) = g_v48 (W4 m c) := ((keep6 m c main_v48 (by decide +kernel)).trans (keep5 m c main_v48 (by decide +kernel)))
theorem w7_v48 : g_v48 (W7 m c) = g_v48 (W4 m c) := ((keep7 m c main_v48 (by decide +kernel)).trans ((keep6 m c main_v48 (by decide +kernel)).trans (keep5 m c main_v48 (by decide +kernel))))
theorem w7_v16 : g_v16 (W7 m c) = g_v16 (W1 m c) := ((keep7 m c main_v16 (by decide +kernel)).trans ((keep6 m c main_v16 (by decide +kernel)).trans ((keep5 m c main_v16 (by decide +kernel)).trans ((keep4 m c main_v16 (by decide +kernel)).trans ((keep3 m c main_v16 (by decide +kernel)).trans (keep2 m c main_v16 (by decide +kernel)))))))
theorem w6_v52 : g_v52 (W6 m c) = g_v52 (W5 m c) := (keep6 m c main_v52 (by decide +kernel))
theorem w6_v53 : g_v53 (W6 m c) = g_v53 (W5 m c) := (keep6 m c main_v53 (by decide +kernel))

theorem e_xn (n : Fin 2048) (q : Fin 768) :
    g_arg0 (W0 m c) (ix2 n q) * Ideal.rsqrt (Ideal.div (∑ q : Fin 768, g_arg0 (W0 m c) (ix2 n q) * g_arg0 (W0 m c) (ix2 n q)) (Ideal.ofBits .f32 0x44400000#32) + Ideal.ofBits .f32 0x3727C5AC#32) * g_arg1 (W0 m c) (ix1 q)
      = xn (rIn m c) n.val q := by
  have e : ∀ q : Fin 768, g_arg0 (W0 m c) (ix2 n q) = (rIn m c).x n.val q := fun q => rIn_x m c n q
  simp only [e]
  rfl

theorem e_v15 (n : Fin 2048) (d : Fin 1536) : g_v15 (W1 m c) (ix2 n d) = xr (rIn m c) n.val d := by
  refine (s_v15 (W0 m c) n d).trans ?_
  unfold xr
  exact Finset.sum_congr rfl fun q _ => congrArg (· * _) (e_xn m c n q)

theorem e_v16 (n : Fin 2048) (d : Fin 1536) : g_v16 (W1 m c) (ix2 n d) = zz (rIn m c) n.val d := by
  refine (s_v16 (W0 m c) n d).trans ?_
  unfold zz
  exact Finset.sum_congr rfl fun q _ => congrArg (· * _) (e_xn m c n q)

theorem e_v17 (n : Fin 2048) (k : ℕ) (hk : k ≤ 3) (d : Fin 1536) (t : Fin 2051) (ht : t.val = k + n.val) : g_v17 (W2 m c) (ix2 t d) = sh (rIn m c) n.val k d := by
  refine (s_v17 (W1 m c) (s_c (W0 m c)) t d).trans ?_
  unfold sh
  by_cases h : 3 ≤ t.val
  · rw [dif_pos h, if_neg (by omega), e_v15]
    exact congrArg (fun j => xr (rIn m c) j d) (by show t.val - 3 = _; omega)
  · rw [dif_neg h, if_pos (by omega)]

theorem e_v47 (n : Fin 2048) (d : Fin 1536) : g_v47 (W3 m c) (ix2 n d) = cv (rIn m c) n.val d := by
  refine (s_v47 (W2 m c) n d).trans ?_
  unfold cv
  rw [e_v17 m c n 0 (by decide) d _ (by show n.val = _; omega), e_v17 m c n 1 (by decide) d _ rfl, e_v17 m c n 2 (by decide) d _ rfl, e_v17 m c n 3 (by decide) d _ rfl,
    w2_arg3, w2_arg4]
  rfl

theorem e_v48 (n : Fin 2048) (d : Fin 1536) : g_v48 (W4 m c) (ix2 n d) = xi (rIn m c) n.val d := by
  refine (s_v48 (W3 m c) n d).trans ?_
  unfold xi
  rw [e_v47]

theorem e_xd (n : Fin 2048) (e : Fin 80) : ∑ x : Fin 1536, g_v48 (W4 m c) (ix2 n x) * g_arg5 (W4 m c) (ix2 e x) = xd (rIn m c) n.val e := by
  unfold xd
  exact Finset.sum_congr rfl fun x _ => by rw [e_v48, w4_arg5]; rfl

theorem e_v58 (n : Fin 2048) (d : Fin 1536) : g_v58 (W5 m c) (ix2 n d) = pa (rIn m c) n.val d := by
  refine (s_v58 (W4 m c) n d).trans ?_
  unfold pa
  simp only [e_xd, w4_arg6, w4_arg7]
  rfl

theorem e_v52 (n : Fin 2048) (s : Fin 16) : g_v52 (W5 m c) (ix2 n s) = bb (rIn m c) n.val s := (s_v52 (W4 m c) n s).trans (e_xd m c n _)
theorem e_v53 (n : Fin 2048) (s : Fin 16) : g_v53 (W5 m c) (ix2 n s) = cc (rIn m c) n.val s := (s_v53 (W4 m c) n s).trans (e_xd m c n _)

theorem e_v59 (n : Fin 2048) (d : Fin 1536) : g_v59 (W6 m c) (ix2 n d) = dt (rIn m c) n.val d := by
  refine (s_v59 (W5 m c) n d).trans ?_
  unfold dt
  rw [e_v58]

theorem e_v64_0 (n : Fin 2048) (d : Fin 1536) : g_v64_0 (W7 m c) (ix2 n d) = xi (rIn m c) n.val d := by
  refine (s_v64_0 (W6 m c) n d).trans ?_
  rw [w6_v48, e_v48]
theorem e_v64_1 (n : Fin 2048) (d : Fin 1536) : g_v64_1 (W7 m c) (ix2 n d) = dt (rIn m c) n.val d := (s_v64_1 (W6 m c) n d).trans (e_v59 m c n d)
theorem e_v64_2 (n : Fin 2048) (s : Fin 16) : g_v64_2 (W7 m c) (ix2 n s) = bb (rIn m c) n.val s := by
  refine (s_v64_2 (W6 m c) n s).trans ?_
  rw [w6_v52, e_v52]
theorem e_v64_3 (n : Fin 2048) (s : Fin 16) : g_v64_3 (W7 m c) (ix2 n s) = cc (rIn m c) n.val s := by
  refine (s_v64_3 (W6 m c) n s).trans ?_
  rw [w6_v53, e_v53]
theorem e_v64_4 (d : Fin 1536) (s : Fin 16) : g_v64_4 (W7 m c) (ix2 d s) = 0 - Ideal.exp ((rIn m c).al d s) := by
  refine (s_v64_4 (W6 m c) d s).trans ?_
  rw [w6_arg8, zero_sub]
  rfl

/-! ## The loop -/

theorem k_v64_0 : ∀ k, g_v64_0 (atK m k c) = g_v64_0 (W7 m c)
  | 0 => rfl
  | k + 1 => (trip_agree (atK m k c) main_v64_0 (by decide)).trans ((STEP_main_v64_0 (atK m k c)).trans (k_v64_0 k))
theorem k_v64_1 : ∀ k, g_v64_1 (atK m k c) = g_v64_1 (W7 m c)
  | 0 => rfl
  | k + 1 => (trip_agree (atK m k c) main_v64_1 (by decide)).trans ((STEP_main_v64_1 (atK m k c)).trans (k_v64_1 k))
theorem k_v64_2 : ∀ k, g_v64_2 (atK m k c) = g_v64_2 (W7 m c)
  | 0 => rfl
  | k + 1 => (trip_agree (atK m k c) main_v64_2 (by decide)).trans ((STEP_main_v64_2 (atK m k c)).trans (k_v64_2 k))
theorem k_v64_3 : ∀ k, g_v64_3 (atK m k c) = g_v64_3 (W7 m c)
  | 0 => rfl
  | k + 1 => (trip_agree (atK m k c) main_v64_3 (by decide)).trans ((STEP_main_v64_3 (atK m k c)).trans (k_v64_3 k))
theorem k_v64_4 : ∀ k, g_v64_4 (atK m k c) = g_v64_4 (W7 m c)
  | 0 => rfl
  | k + 1 => (trip_agree (atK m k c) main_v64_4 (by decide)).trans ((STEP_main_v64_4 (atK m k c)).trans (k_v64_4 k))

theorem k_v89 (k : ℕ) (hk : k < 2048) (ih : ∀ (d : Fin 1536) (s : Fin 16), g_v64_6 (atK m k c) (ix2 d s) = H (rIn m c) k s d) (d : Fin 1536) (s : Fin 16) :
    g_v89 (atK m k c) (ix2 d s) = H (rIn m c) (k + 1) s d := by
  rw [v89_apply _ k hk (atK_ctr m c k), k_v64_0, k_v64_1, k_v64_2, k_v64_4, e_v64_0, e_v64_1, e_v64_2, e_v64_4, ih]
  rfl

theorem k_v64_6 : ∀ (k : ℕ) (hk : k ≤ 2048) (d : Fin 1536) (s : Fin 16), g_v64_6 (atK m k c) (ix2 d s) = H (rIn m c) k s d
  | 0, _, d, s => s_v64_6 (W6 m c) d s
  | k + 1, hk, d, s => by
    have e : g_v64_6 (atK m (k + 1) c) = g_v89 (atK m k c) := (trip_agree (atK m k c) main_v64_6 (by decide)).trans ((STEP_main_v64_6 (atK m k c)).trans rfl)
    rw [e]
    exact k_v89 m c k (by omega) (fun d s => k_v64_6 k (by omega) d s) d s

theorem k_v64_7 : ∀ (k : ℕ) (hk : k ≤ 2048) (n : Fin 2048) (d : Fin 1536), g_v64_7 (atK m k c) (ix2 n d) = if n.val < k then y (rIn m c) n.val d else 0
  | 0, _, n, d => (s_v64_7 (W6 m c) n d).trans (if_neg (Nat.not_lt_zero _)).symm
  | k + 1, hk, n, d => by
    have e : g_v64_7 (atK m (k + 1) c) = g_s7 (atK m k c) := (trip_agree (atK m k c) main_v64_7 (by decide)).trans (STEP_main_v64_7 (atK m k c))
    rw [e, v7_apply _ k (by omega) (atK_ctr m c k), k_v64_7 k (by omega) n d]
    by_cases h : n.val = k
    · rw [if_pos h, if_pos (by omega), h]
      unfold y
      refine Finset.sum_congr rfl fun s _ => ?_
      rw [k_v89 m c k (by omega) (fun d s => k_v64_6 m c k (by omega) d s), k_v64_3, e_v64_3]
    · rw [if_neg h]
      by_cases h2 : n.val < k
      · rw [if_pos h2, if_pos (by omega)]
      · rw [if_neg h2, if_neg (by omega)]

/-! ## The lines after the loop -/

def X0 : Valuation τ sig (Elt Ideal) := after condOps (atK m 2048 c)
def X1 : Valuation τ sig (Elt Ideal) := after hostOps0_7 (X0 m c)
def X2 : Valuation τ sig (Elt Ideal) := after hostOps0_8 (X1 m c)
def X3 : Valuation τ sig (Elt Ideal) := after hostOps0_9 (X2 m c)

theorem final_eq : finalContents condOps preI bodyI postI 2048 m c = X3 m c := rfl

theorem x_v64_7 (n : Fin 2048) (d : Fin 1536) : g_v64_7 (X0 m c) (ix2 n d) = y (rIn m c) n.val d := by
  have e : g_v64_7 (X0 m c) = g_v64_7 (atK m 2048 c) := cond_keeps (atK m 2048 c) main_v64_7 (by decide)
  rw [e, k_v64_7 m c 2048 (le_refl _), if_pos n.isLt]
theorem x_v48 : g_v48 (X0 m c) = g_v48 (W7 m c) :=
  (after_of_writes_sub condOps _ condOps_writes (by decide +kernel)).trans (atK_keep m c main_v48 (by decide +kernel) (by decide +kernel) (by decide +kernel) (by decide +kernel) (by decide +kernel) (by decide +kernel) (by decide +kernel) (by decide +kernel) 2048)
theorem x_v16 : g_v16 (X0 m c) = g_v16 (W7 m c) :=
  (after_of_writes_sub condOps _ condOps_writes (by decide +kernel)).trans (atK_keep m c main_v16 (by decide +kernel) (by decide +kernel) (by decide +kernel) (by decide +kernel) (by decide +kernel) (by decide +kernel) (by decide +kernel) (by decide +kernel) 2048)

theorem f_v68 (n : Fin 2048) (d : Fin 1536) : g_v68 (X1 m c) (ix2 n d) = y (rIn m c) n.val d + xi (rIn m c) n.val d * (rIn m c).dp d := by
  refine (s_v68 (X0 m c) n d).trans ?_
  rw [x_v64_7, x_v48, w7_v48, e_v48, show g_arg9 (X0 m c) = a9 m c from exit_arg9 m c]
  rfl

theorem f_v69 (n : Fin 2048) (d : Fin 1536) : g_v69 (X2 m c) (ix2 n d) = zz (rIn m c) n.val d * Ideal.logistic (zz (rIn m c) n.val d) := by
  refine (s_v69 (X1 m c) n d).trans ?_
  rw [show g_v16 (X1 m c) = g_v16 (X0 m c) from after_of_writes_sub hostOps0_7 _ hostOps0_7_writes (by decide +kernel), x_v16, w7_v16, e_v16]

theorem f_v73 (n : Fin 2048) (q : Fin 768) : g_v73 (X3 m c) (ix2 n q) = out (rIn m c) n.val q := by
  refine (s_v73 (X2 m c) n q).trans ?_
  have e0 : g_arg0 (X2 m c) = a0 m c := (after_of_writes_sub hostOps0_8 _ hostOps0_8_writes (by decide +kernel)).trans ((after_of_writes_sub hostOps0_7 _ hostOps0_7_writes (by decide +kernel)).trans (exit_arg0 m c))
  have e10 : g_arg10 (X2 m c) = a10 m c := (after_of_writes_sub hostOps0_8 _ hostOps0_8_writes (by decide +kernel)).trans ((after_of_writes_sub hostOps0_7 _ hostOps0_7_writes (by decide +kernel)).trans (exit_arg10 m c))
  have e68 : g_v68 (X2 m c) = g_v68 (X1 m c) := after_of_writes_sub hostOps0_8 _ hostOps0_8_writes (by decide +kernel)
  rw [e0, e10, e68, rIn_x]
  unfold out
  refine congrArg ((rIn m c).x n.val q + ·) (Finset.sum_congr rfl fun d _ => ?_)
  rw [f_v68, f_v69, show (rIn m c).ow q d = a10 m c (ix2 q d) from rfl]

end Cert.LayerRefIdeal.Body

end
-- ==== Proof.LayerAlgebraic.lean ====
/- The layer program and its reference agree over the extended reals. -/
module

public import proofs.«01_k».proof.Defs
public import proofs.«01_k».proof.Proof.LayerIdealValue
public import proofs.«01_k».proof.Proof.LayerRefValue

@[expose] public section

set_option maxRecDepth 16384

noncomputable section

namespace Cert.LayerIdeal.Body

open Idealize.ShloMosaic Idealize.ShloMosaic.TcCoe Idealize.SL.Sem Cert.LayerMath

/-- The reference's result, as rows. -/
theorem ref_rows (m : (ℓ : Loc Cert.LayerRefIdeal.nD Cert.LayerRefIdeal.τ Cert.LayerRefIdeal.sig) → Buf (Elt Ideal) ℓ) (c : Dev Cert.LayerRefIdeal.nD) (i : Cert.LayerRefIdeal.S2048x768.Idx) :
    Cert.LayerRefIdeal.Body.g_v73 (Cert.LayerRefIdeal.Body.X3 m c) i = out (Cert.LayerRefIdeal.Body.rIn m c) (i 0).val (i 1) := by
  obtain ⟨a, b, rfl⟩ : ∃ (a : Fin 2048) (b : Fin 768), i = ix2 a b := ⟨i 0, i 1, by
    funext a; match a with
    | ⟨0, _⟩ => rfl
    | ⟨1, _⟩ => rfl⟩
  exact Cert.LayerRefIdeal.Body.f_v73 m c a b

theorem algebraic : Cert.algebraic_LayerIdeal_LayerRefIdeal := by
  intro m g m' g' _ hagree
  refine ⟨fun c => rowsOut m c, run m g, ?_⟩
  refine θ_run_mono (Cert.LayerRefIdeal.Value.run_fold m' g') fun r h c => ⟨?_, ?_⟩
  · refine (h c _ rfl).trans ?_
    obtain ⟨h0, h1, h2, h3, h4, h5, h6, h7, h8, h9, h10⟩ := hagree c
    have e : Cert.LayerRefIdeal.Body.rIn m' c = aIn m c := by
      unfold Cert.LayerRefIdeal.Body.rIn aIn
      simp only [Cert.LayerRefIdeal.Body.a0, Cert.LayerRefIdeal.Body.a1, Cert.LayerRefIdeal.Body.a2, Cert.LayerRefIdeal.Body.a3, Cert.LayerRefIdeal.Body.a4, Cert.LayerRefIdeal.Body.a5,
        Cert.LayerRefIdeal.Body.a6, Cert.LayerRefIdeal.Body.a7, Cert.LayerRefIdeal.Body.a8, Cert.LayerRefIdeal.Body.a9, Cert.LayerRefIdeal.Body.a10, h0, h1, h2, h3, h4, h5, h6, h7, h8, h9, h10]
    refine funext fun i => (ref_rows m' c i).trans ?_
    rw [e]
    rfl
  · exact ⟨(h c _ rfl).trans (Cert.LayerRefIdeal.Body.final_arg0 m' c),
      (h c _ rfl).trans (Cert.LayerRefIdeal.Body.final_arg1 m' c),
      (h c _ rfl).trans (Cert.LayerRefIdeal.Body.final_arg2 m' c),
      (h c _ rfl).trans (Cert.LayerRefIdeal.Body.final_arg3 m' c),
      (h c _ rfl).trans (Cert.LayerRefIdeal.Body.final_arg4 m' c),
      (h c _ rfl).trans (Cert.LayerRefIdeal.Body.final_arg5 m' c),
      (h c _ rfl).trans (Cert.LayerRefIdeal.Body.final_arg6 m' c),
      (h c _ rfl).trans (Cert.LayerRefIdeal.Body.final_arg7 m' c),
      (h c _ rfl).trans (Cert.LayerRefIdeal.Body.final_arg8 m' c),
      (h c _ rfl).trans (Cert.LayerRefIdeal.Body.final_arg9 m' c),
      (h c _ rfl).trans (Cert.LayerRefIdeal.Body.final_arg10 m' c)⟩

end Cert.LayerIdeal.Body

end
-- ==== Proof.lean ====
/- The certificate's claims, each cited from its module. -/
module

public import proofs.«01_k».proof.Defs
public import proofs.«01_k».proof.Proof.HeadFrame
public import proofs.«01_k».proof.Proof.HeadAlgebraic
public import proofs.«01_k».proof.Proof.Gen.HeadRefIdeal.Run
public import proofs.«01_k».proof.Proof.LayerFrame
public import proofs.«01_k».proof.Proof.LayerIdealFrame
public import proofs.«01_k».proof.Proof.LayerRefFrame
public import proofs.«01_k».proof.Proof.LayerAlgebraic
public import Idealize.ShloMosaic.Adequacy
public import Idealize.ShloMosaic.Init

@[expose] public section

noncomputable section

namespace Cert.Proof

open Idealize.ShloMosaic Idealize.SL.Sem

theorem claim : Cert.Claim := ⟨Cert.Head.Gen.facts, Cert.HeadIdeal.Gen.facts, Cert.HeadRefIdeal.Gen.facts, Cert.Layer.Gen.facts, Cert.LayerIdeal.Gen.facts, Cert.LayerRefIdeal.Gen.facts,
  fun m g _ => Cert.Head.Body.frame (F := Bits) m g,
  fun m g _ => Cert.HeadIdeal.Body.frame m g,
  Cert.HeadIdeal.Body.ref_frame,
  fun m g _ => Cert.Layer.Body.frame (F := Bits) m g,
  fun m g _ => Cert.LayerIdeal.Body.frame m g,
  Cert.LayerRefIdeal.Body.frame,
  trivial,
  Cert.HeadIdeal.Body.algebraic,
  trivial,
  Cert.LayerIdeal.Body.algebraic⟩

end Cert.Proof

end
